-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_v5_2) = v3 c
          ∧ r.2.mem ((c.tc : Thread Cert.ReferenceIdeal.nD Cert.ReferenceIdeal.τ).loc Cert.ReferenceIdeal.main_v5_3) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x16384 : Shape := ⟨3, ![2, 4096, 16384]⟩
abbrev S16384x6144 : Shape := ⟨2, ![16384, 6144]⟩
abbrev S1x1 : Shape := ⟨2, ![1, 1]⟩
abbrev S512x6144 : Shape := ⟨2, ![512, 6144]⟩
abbrev S8x6144 : Shape := ⟨2, ![8, 6144]⟩
abbrev S64x8x6144 : Shape := ⟨3, ![64, 8, 6144]⟩
abbrev S1x8x6144 : Shape := ⟨3, ![1, 8, 6144]⟩
abbrev S1 : Shape := ⟨1, ![1]⟩
abbrev S1x1x1 : Shape := ⟨3, ![1, 1, 1]⟩
abbrev S16384x1536 : Shape := ⟨2, ![16384, 1536]⟩
abbrev S256x6144 : Shape := ⟨2, ![256, 6144]⟩
abbrev S256x1536 : Shape := ⟨2, ![256, 1536]⟩
abbrev S64x128 : Shape := ⟨2, ![64, 128]⟩
abbrev S256x128 : Shape := ⟨2, ![256, 128]⟩
abbrev S64x128x1 : Shape := ⟨3, ![64, 128, 1]⟩
abbrev S8192x16384 : Shape := ⟨2, ![8192, 16384]⟩
abbrev S8192x1 : Shape := ⟨2, ![8192, 1]⟩
abbrev S128x16384 : Shape := ⟨2, ![128, 16384]⟩
abbrev S128x1 : Shape := ⟨2, ![128, 1]⟩
abbrev S128 : Shape := ⟨1, ![128]⟩
abbrev S8192x6144 : Shape := ⟨2, ![8192, 6144]⟩
abbrev S2048x1024 : Shape := ⟨2, ![2048, 1024]⟩
abbrev S1024x2048 : Shape := ⟨2, ![1024, 2048]⟩
abbrev S2048x1 : Shape := ⟨2, ![2048, 1]⟩
abbrev S2048x2048 : Shape := ⟨2, ![2048, 2048]⟩
abbrev S2x1024x512 : Shape := ⟨3, ![2, 1024, 512]⟩
abbrev S2x512x1024 : Shape := ⟨3, ![2, 512, 1024]⟩
abbrev S1024x512 : Shape := ⟨2, ![1024, 512]⟩
abbrev S1x1024x512 : Shape := ⟨3, ![1, 1024, 512]⟩
abbrev S512x1024 : Shape := ⟨2, ![512, 1024]⟩
abbrev S1x512x1024 : Shape := ⟨3, ![1, 512, 1024]⟩
abbrev S1024x1024 : Shape := ⟨2, ![1024, 1024]⟩
abbrev S2x4096x6144 : Shape := ⟨3, ![2, 4096, 6144]⟩
abbrev S_ : Shape := ⟨0, ![]⟩
abbrev S2x4096 : Shape := ⟨2, ![2, 4096]⟩

abbrev nBuf : Space → Nat
  | .hbm => 13
  | .vmem => 26
  | .smem => 3
  | _ => 0

abbrev bufTy : (tb : Table) → Fin (tcTables nBuf tb) → BufTy
  | .hbm, ⟨0, _⟩ => ⟨S2x4096x16384, .bf16⟩
  | .hbm, ⟨1, _⟩ => ⟨S16384x6144, .bf16⟩
  | .hbm, ⟨2, _⟩ => ⟨S1x1, .f32⟩
  | .hbm, ⟨3, _⟩ => ⟨S16384x6144, .i8⟩
  | .hbm, ⟨4, _⟩ => ⟨S16384x1536, .i8⟩
  | .hbm, ⟨5, _⟩ => ⟨S8192x16384, .bf16⟩
  | .hbm, ⟨6, _⟩ => ⟨S8192x16384, .i8⟩
  | .hbm, ⟨7, _⟩ => ⟨S8192x1, .f32⟩
  | .hbm, ⟨8, _⟩ => ⟨S8192x6144, .bf16⟩
  | .hbm, ⟨9, _⟩ => ⟨S2x4096x6144, .bf16⟩
  | .hbm, ⟨10, _⟩ => ⟨S_, .f32⟩
  | .hbm, ⟨11, _⟩ => ⟨S2x4096x16384, .i8⟩
  | .hbm, ⟨12, _⟩ => ⟨S2x4096, .f32⟩
  | .local _ .vmem, ⟨0, _⟩ => ⟨S512x6144, .bf16⟩
  | .local _ .vmem, ⟨1, _⟩ => ⟨S512x6144, .bf16⟩
  | .local _ .vmem, ⟨2, _⟩ => ⟨S8x6144, .f32⟩
  | .local _ .vmem, ⟨3, _⟩ => ⟨S256x6144, .bf16⟩
  | .local _ .vmem, ⟨4, _⟩ => ⟨S256x6144, .bf16⟩
  | .local _ .vmem, ⟨5, _⟩ => ⟨S256x6144, .i8⟩
  | .local _ .vmem, ⟨6, _⟩ => ⟨S256x6144, .i8⟩
  | .local _ .vmem, ⟨7, _⟩ => ⟨S256x1536, .i8⟩
  | .local _ .vmem, ⟨8, _⟩ => ⟨S256x1536, .i8⟩
  | .local _ .vmem, ⟨9, _⟩ => ⟨S128x16384, .bf16⟩
  | .local _ .vmem, ⟨10, _⟩ => ⟨S128x16384, .bf16⟩
  | .local _ .vmem, ⟨11, _⟩ => ⟨S128x16384, .i8⟩
  | .local _ .vmem, ⟨12, _⟩ => ⟨S128x16384, .i8⟩
  | .local _ .vmem, ⟨13, _⟩ => ⟨S128x1, .f32⟩
  | .local _ .vmem, ⟨14, _⟩ => ⟨S128x1, .f32⟩
  | .local _ .vmem, ⟨15, _⟩ => ⟨S2048x1024, .i8⟩
  | .local _ .vmem, ⟨16, _⟩ => ⟨S2048x1024, .i8⟩
  | .local _ .vmem, ⟨17, _⟩ => ⟨S1024x2048, .i8⟩
  | .local _ .vmem, ⟨18, _⟩ => ⟨S1024x2048, .i8⟩
  | .local _ .vmem, ⟨19, _⟩ => ⟨S2048x1, .f32⟩
  | .local _ .vmem, ⟨20, _⟩ => ⟨S2048x1, .f32⟩
  | .local _ .vmem, ⟨21, _⟩ => ⟨S2048x2048, .bf16⟩
  | .local _ .vmem, ⟨22, _⟩ => ⟨S2048x2048, .bf16⟩
  | .local _ .vmem, ⟨23, _⟩ => ⟨S2048x2048, .f32⟩
  | .local _ .vmem, ⟨24, _⟩ => ⟨S2x1024x512, .bf16⟩
  | .local _ .vmem, ⟨25, _⟩ => ⟨S2x512x1024, .bf16⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S2x4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc3_stg4_1 : Ref sig .tc := ⟨.vmem, 22, rfl⟩
abbrev cc3_scratch0 : Ref sig .tc := ⟨.vmem, 23, rfl⟩
abbrev cc3_scratch1 : Ref sig .tc := ⟨.vmem, 24, rfl⟩
abbrev cc3_scratch2 : Ref sig .tc := ⟨.vmem, 25, rfl⟩
abbrev cc0_stg1_0 : Ref sig .tc := ⟨.smem, 0, rfl⟩
abbrev cc1_stg0_0 : Ref sig .tc := ⟨.smem, 1, rfl⟩
abbrev cc3_stg0_0 : Ref sig .tc := ⟨.smem, 2, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v13 : BitVec 1 := Scalar.cmpi .eq arg0 c31_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x6144 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x6144 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1536 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x16384 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x16384 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![4, 3, 16], ![false, false, false]⟩

def k3_cond2 (i : grid3.Coords) : BitVec 1 :=
  let arg2 : BitVec 32 := BitVec.ofNat 32 (i 2).val
  let c15_i32 : BitVec 32 := 15#32
  let v222 : BitVec 1 := Scalar.cmpi .eq arg2 c15_i32
  let v223 : BitVec 32 := Scalar.extui v222
  let c0_i32_183 : BitVec 32 := 0#32
  let v224 : BitVec 1 := Scalar.cmpi .ne v223 c0_i32_183
  v224

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .smem S1x1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false, false]

abbrev stage3_1 : Fin 2 → Memref sig .tc .vmem S2048x1024 .i8 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1024x2048 .i8 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev stage3_3 : Fin 2 → Memref sig .tc .vmem S2048x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false, false]

abbrev stage3_4 : Fin 2 → Memref sig .tc .vmem S2048x2048 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]
-- ==== ReferenceIdeal.lean ====
abbrev S2x4096x16384 : Shape := ⟨3, ![2, 4096, 16384]⟩
abbrev S16384x6144 : Shape := ⟨2, ![16384, 6144]⟩
abbrev S_ : Shape := ⟨0, ![]⟩
abbrev S1x1 : Shape := ⟨2, ![1, 1]⟩
abbrev S2x4096x6144 : Shape := ⟨3, ![2, 4096, 6144]⟩
abbrev S16384x1536 : Shape := ⟨2, ![16384, 1536]⟩
abbrev S2x4096 : Shape := ⟨2, ![2, 4096]⟩
abbrev S2x4096x1 : Shape := ⟨3, ![2, 4096, 1]⟩
abbrev S16384x1536x4 : Shape := ⟨3, ![16384, 1536, 4]⟩
abbrev S16384x1536x1 : Shape := ⟨3, ![16384, 1536, 1]⟩

abbrev nBuf : Space → Nat
  | .hbm => 13
  | .vmem => 6
  | .smem => 1
  | _ => 0

abbrev bufTy : (tb : Table) → Fin (tcTables nBuf tb) → BufTy
  | .hbm, ⟨0, _⟩ => ⟨S2x4096x16384, .bf16⟩
  | .hbm, ⟨1, _⟩ => ⟨S16384x6144, .bf16⟩
  | .hbm, ⟨2, _⟩ => ⟨S16384x6144, .f32⟩
  | .hbm, ⟨3, _⟩ => ⟨S16384x6144, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S2x4096x6144, .bf16⟩
  | .hbm, ⟨10, _⟩ => ⟨S16384x1536, .i8⟩
  | .hbm, ⟨11, _⟩ => ⟨S2x4096x16384, .i8⟩
  | .hbm, ⟨12, _⟩ => ⟨S2x4096, .f32⟩
  | .local _ .vmem, ⟨0, _⟩ => ⟨S2x4096x16384, .bf16⟩
  | .local _ .vmem, ⟨1, _⟩ => ⟨S16384x6144, .bf16⟩
  | .local _ .vmem, ⟨2, _⟩ => ⟨S2x4096x6144, .bf16⟩
  | .local _ .vmem, ⟨3, _⟩ => ⟨S16384x1536, .i8⟩
  | .local _ .vmem, ⟨4, _⟩ => ⟨S2x4096x16384, .i8⟩
  | .local _ .vmem, ⟨5, _⟩ => ⟨S2x4096, .f32⟩
  | .local _ .smem, ⟨0, _⟩ => ⟨S1x1, .f32⟩
  | _, _ => ⟨S2x4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x1536 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4096x16384 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.GammaRegion.lean ====
/-
  Region 0 of the program (the weights' mean magnitude): the windows' blocks, the body's run in each case of its conditionals, what the outputs and the
  carried scratch hold after each grid point, the proof data of the pipeline and its body obligation, for any contents `V` that the
  region is entered from.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.Gamma

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The scoped buffers other than this region's staging buffers, each whole at some contents. -/
theorem scopedRest0_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f) ∗ (∃ f : Buf (Elt F) ((c : Thread nD τ).loc cc3_scratch2), ((c : Thread nD τ).loc cc3_scratch2) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc3_stg0_0), ((c : Thread nD τ).loc cc3_stg0_0) ↦{fullShare} f)) :=
  Pipeline.scopedRest_eq_of_list spec0 c [cc0_scratch0, cc1_stg1_0, cc1_stg1_1, cc1_stg2_0, cc1_stg2_1, cc1_stg3_0, cc1_stg3_1, cc2_stg0_0, cc2_stg0_1, cc2_stg1_0, cc2_stg1_1, cc2_stg2_0, cc2_stg2_1, cc3_stg1_0, cc3_stg1_1, cc3_stg2_0, cc3_stg2_1, cc3_stg3_0, cc3_stg3_1, cc3_stg4_0, cc3_stg4_1, cc3_scratch0, cc3_scratch1, cc3_scratch2, cc1_stg0_0, cc3_stg0_0] (by decide) (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cfg0.idle 1 (grid0.coords t) = false := by decide +kernel

/-! ## The kernel body on any staging memrefs: a subtype the run finds -/

/-- One staging buffer of output window 1, through which its contents are stated (`View.read_writes_of_cover`: the
    choice does not matter). -/
abbrev VO0_1 : View sig .tc .smem S1x1 .f32 := (Memref.whole cc0_stg1_0 : Memref sig .tc .smem S1x1 .f32).view
/-- Each window's current staging memref at point `t`, spelled as the pipeline passes it (`bodyAt0`), and its wholeness. -/
abbrev ms0_0 (t : Fin cfg0.N) : Memref sig .tc .vmem S512x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S8x6144 .f32 := Memref.whole cc0_scratch0
/-- The scratch `arg3` the kernel carries between points, as a view: what it holds is stated through it. -/
abbrev VS0_0 : View sig .tc .vmem S8x6144 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f) ∗ (∃ f : Buf (Elt F) ((c : Thread nD τ).loc cc3_scratch2), ((c : Thread nD τ).loc cc3_scratch2) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc3_stg0_0), ((c : Thread nD τ).loc cc3_stg0_0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x6144 .bf16) (harg1 : arg1.IsWhole) (arg2 : Memref sig .tc .smem S1x1 .f32) (harg2 : arg2.IsWhole) (arg3 : Memref sig .tc .vmem S8x6144 .f32) (harg3 : arg3.IsWhole) (hc0 : cond0_0 i) (hc1 : ¬cond0_1 i)
    (x0 : Vec F S512x6144 .bf16) :
    Σ' (L1 : List (View.Piece (Elt F) S1x1 .f32)), { LS0 : List (View.Piece (Elt F) S8x6144 .f32) //
      ∀ (xi1 : Vec F S1x1 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_gamma i arg1 harg1 arg2 harg2 arg3 harg3) K } := by
  refine ⟨[], ?_, fun xi1 E K => ?run⟩
  case run =>
    simp only [cc0_gamma_eq_skeleton]; unfold cc0_gamma_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S512x6144 .bf16) (harg1 : arg1.IsWhole) (arg2 : Memref sig .tc .smem S1x1 .f32) (harg2 : arg2.IsWhole) (arg3 : Memref sig .tc .vmem S8x6144 .f32) (harg3 : arg3.IsWhole) (hc0 : cond0_0 i) (hc1 : ¬cond0_1 i)
    (x0 : Vec F S512x6144 .bf16) : Vec F S1x1 .f32 :=
  VO0_1.read (Elt F) (VO0_1.writes (Elt F) VO0_1.junk (kernelRun0_A c i arg1 harg1 arg2 harg2 arg3 harg3 hc0 hc1 x0).1)

/-- Case A's pieces for scratch `arg3`, which the kernel carries between points, cover it: 2 pieces of `S8x6144` tiling it (Lib/Ring.lean `Piece.tiledL`). -/
theorem scover0_A_0 (c : Dev nD) (i : grid0.Coords) (arg1 : Memref sig .tc .vmem S512x6144 .bf16) (harg1 : arg1.IsWhole) (arg2 : Memref sig .tc .smem S1x1 .f32) (harg2 : arg2.IsWhole) (arg3 : Memref sig .tc .vmem S8x6144 .f32) (harg3 : arg3.IsWhole) (hc0 : cond0_0 i) (hc1 : ¬cond0_1 i)
    (x0 : Vec F S512x6144 .bf16) (y : S8x6144.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S8x6144.size (by sl_kernel_rfl) y

/-- What case A leaves in scratch `arg3`: its pieces read back over junk. -/
def sout0_A_0 (c : Dev nD) (i : grid0.Coords) (arg1 : Memref sig .tc .vmem S512x6144 .bf16) (harg1 : arg1.IsWhole) (arg2 : Memref sig .tc .smem S1x1 .f32) (harg2 : arg2.IsWhole) (arg3 : Memref sig .tc .vmem S8x6144 .f32) (harg3 : arg3.IsWhole) (hc0 : cond0_0 i) (hc1 : ¬cond0_1 i)
    (x0 : Vec F S512x6144 .bf16) : Vec F S8x6144 .f32 :=
  VS0_0.read (Elt F) (VS0_0.writes (Elt F) VS0_0.junk (kernelRun0_A c i arg1 harg1 arg2 harg2 arg3 harg3 hc0 hc1 x0).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 30: 30 of 32), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x6144 .bf16) (harg1 : arg1.IsWhole) (arg2 : Memref sig .tc .smem S1x1 .f32) (harg2 : arg2.IsWhole) (arg3 : Memref sig .tc .vmem S8x6144 .f32) (harg3 : arg3.IsWhole) (hc0 : ¬cond0_0 i) (hc1 : ¬cond0_1 i)
    (x0 : Vec F S512x6144 .bf16) (xs0 : Vec F S8x6144 .f32) :
    Σ' (L1 : List (View.Piece (Elt F) S1x1 .f32)), { LS0 : List (View.Piece (Elt F) S8x6144 .f32) //
      ∀ (xi1 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_gamma i arg1 harg1 arg2 harg2 arg3 harg3) K } := by
  refine ⟨[], ?_, fun xi1 E K => ?run⟩
  case run =>
    simp only [cc0_gamma_eq_skeleton]; unfold cc0_gamma_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S512x6144 .bf16) (harg1 : arg1.IsWhole) (arg2 : Memref sig .tc .smem S1x1 .f32) (harg2 : arg2.IsWhole) (arg3 : Memref sig .tc .vmem S8x6144 .f32) (harg3 : arg3.IsWhole) (hc0 : ¬cond0_0 i) (hc1 : ¬cond0_1 i)
    (x0 : Vec F S512x6144 .bf16) (xs0 : Vec F S8x6144 .f32) : Vec F S1x1 .f32 :=
  VO0_1.read (Elt F) (VO0_1.writes (Elt F) VO0_1.junk (kernelRun0_B c i arg1 harg1 arg2 harg2 arg3 harg3 hc0 hc1 x0 xs0).1)

/-- Case B's pieces for scratch `arg3`, which the kernel carries between points, cover it: 1 piece of `S8x6144` tiling it (Lib/Ring.lean `Piece.tiledL`). -/
theorem scover0_B_0 (c : Dev nD) (i : grid0.Coords) (arg1 : Memref sig .tc .vmem S512x6144 .bf16) (harg1 : arg1.IsWhole) (arg2 : Memref sig .tc .smem S1x1 .f32) (harg2 : arg2.IsWhole) (arg3 : Memref sig .tc .vmem S8x6144 .f32) (harg3 : arg3.IsWhole) (hc0 : ¬cond0_0 i) (hc1 : ¬cond0_1 i)
    (x0 : Vec F S512x6144 .bf16) (xs0 : Vec F S8x6144 .f32) (y : S8x6144.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S8x6144.size (by sl_kernel_rfl) y

/-- What case B leaves in scratch `arg3`: its pieces read back over junk. -/
def sout0_B_0 (c : Dev nD) (i : grid0.Coords) (arg1 : Memref sig .tc .vmem S512x6144 .bf16) (harg1 : arg1.IsWhole) (arg2 : Memref sig .tc .smem S1x1 .f32) (harg2 : arg2.IsWhole) (arg3 : Memref sig .tc .vmem S8x6144 .f32) (harg3 : arg3.IsWhole) (hc0 : ¬cond0_0 i) (hc1 : ¬cond0_1 i)
    (x0 : Vec F S512x6144 .bf16) (xs0 : Vec F S8x6144 .f32) : Vec F S8x6144 .f32 :=
  VS0_0.read (Elt F) (VS0_0.writes (Elt F) VS0_0.junk (kernelRun0_B c i arg1 harg1 arg2 harg2 arg3 harg3 hc0 hc1 x0 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 31), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x6144 .bf16) (harg1 : arg1.IsWhole) (arg2 : Memref sig .tc .smem S1x1 .f32) (harg2 : arg2.IsWhole) (arg3 : Memref sig .tc .vmem S8x6144 .f32) (harg3 : arg3.IsWhole) (hc0 : ¬cond0_0 i) (hc1 : cond0_1 i)
    (x0 : Vec F S512x6144 .bf16) (xs0 : Vec F S8x6144 .f32) :
    Σ' (L1 : List (View.Piece (Elt F) S1x1 .f32)), { LS0 : List (View.Piece (Elt F) S8x6144 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0_gamma i arg1 harg1 arg2 harg2 arg3 harg3) K } := by
  refine ⟨?_, ?_, fun E K => ?run⟩
  case run =>
    simp only [cc0_gamma_eq_skeleton]; unfold cc0_gamma_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    iexists _; iexact HS0

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S512x6144 .bf16) (harg1 : arg1.IsWhole) (arg2 : Memref sig .tc .smem S1x1 .f32) (harg2 : arg2.IsWhole) (arg3 : Memref sig .tc .vmem S8x6144 .f32) (harg3 : arg3.IsWhole) (hc0 : ¬cond0_0 i) (hc1 : cond0_1 i)
    (x0 : Vec F S512x6144 .bf16) (xs0 : Vec F S8x6144 .f32) (y : S1x1.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x1.size (by sl_kernel_rfl) y

/-- What case C leaves in output 1's staging buffer: its pieces read back over junk. -/
def out0_C_1 (c : Dev nD) (i : grid0.Coords) (arg1 : Memref sig .tc .vmem S512x6144 .bf16) (harg1 : arg1.IsWhole) (arg2 : Memref sig .tc .smem S1x1 .f32) (harg2 : arg2.IsWhole) (arg3 : Memref sig .tc .vmem S8x6144 .f32) (harg3 : arg3.IsWhole) (hc0 : ¬cond0_0 i) (hc1 : cond0_1 i)
    (x0 : Vec F S512x6144 .bf16) (xs0 : Vec F S8x6144 .f32) : Vec F S1x1 .f32 :=
  VO0_1.read (Elt F) (VO0_1.writes (Elt F) VO0_1.junk (kernelRun0_C c i arg1 harg1 arg2 harg2 arg3 harg3 hc0 hc1 x0 xs0).1)

/-- Case C's pieces for scratch `arg3`, which the kernel carries between points, cover it: 1 piece of `S8x6144` tiling it (Lib/Ring.lean `Piece.tiledL`). -/
theorem scover0_C_0 (c : Dev nD) (i : grid0.Coords) (arg1 : Memref sig .tc .vmem S512x6144 .bf16) (harg1 : arg1.IsWhole) (arg2 : Memref sig .tc .smem S1x1 .f32) (harg2 : arg2.IsWhole) (arg3 : Memref sig .tc .vmem S8x6144 .f32) (harg3 : arg3.IsWhole) (hc0 : ¬cond0_0 i) (hc1 : cond0_1 i)
    (x0 : Vec F S512x6144 .bf16) (xs0 : Vec F S8x6144 .f32) (y : S8x6144.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S8x6144.size (by sl_kernel_rfl) y

/-- What case C leaves in scratch `arg3`: its pieces read back over junk. -/
def sout0_C_0 (c : Dev nD) (i : grid0.Coords) (arg1 : Memref sig .tc .vmem S512x6144 .bf16) (harg1 : arg1.IsWhole) (arg2 : Memref sig .tc .smem S1x1 .f32) (harg2 : arg2.IsWhole) (arg3 : Memref sig .tc .vmem S8x6144 .f32) (harg3 : arg3.IsWhole) (hc0 : ¬cond0_0 i) (hc1 : cond0_1 i)
    (x0 : Vec F S512x6144 .bf16) (xs0 : Vec F S8x6144 .f32) : Vec F S8x6144 .f32 :=
  VS0_0.read (Elt F) (VS0_0.writes (Elt F) VS0_0.junk (kernelRun0_C c i arg1 harg1 arg2 harg2 arg3 harg3 hc0 hc1 x0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S8x6144 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩))
  | n + 1, hn =>
    if h0 : (n + 1) % 32 = 0 then
      if h1 : (n + 1) % 32 = 31 then
        False.elim (by have hN : n + 1 < 32 := lt_of_lt_of_eq hn (show cfg0.N = 32 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩))
    else
      if h1 : (n + 1) % 32 = 31 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (outsAt0 c n (Nat.lt_of_succ_lt hn)).2)

/-- `outsAt0` at a point of case A: that case's contents. -/
theorem outsAt0_A (c : Dev nD) (t : Fin cfg0.N) (h0 : t.val % 32 = 0) (h1 : ¬t.val % 32 = 31) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk V c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f) ∗ (∃ f : Buf (Elt F) ((c : Thread nD τ).loc cc3_scratch2), ((c : Thread nD τ).loc cc3_scratch2) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc3_stg0_0), ((c : Thread nD τ).loc cc3_stg0_0) ↦{fullShare} f)) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f) ∗ (∃ f : Buf (Elt F) ((c : Thread nD τ).loc cc3_scratch2), ((c : Thread nD τ).loc cc3_scratch2) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc3_stg0_0), ((c : Thread nD τ).loc cc3_stg0_0) ↦{fullShare} f)) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f) ∗ (∃ f : Buf (Elt F) ((c : Thread nD τ).loc cc3_scratch2), ((c : Thread nD τ).loc cc3_scratch2) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc3_stg0_0), ((c : Thread nD τ).loc cc3_stg0_0) ↦{fullShare} f)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 4) (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats V 0 c).A w = V c (Pipeline.arrRef spec0 w) := by
  dsimp only [dats]

/-- The invariant at a point's start (the proof data at `t.castSucc`), restated at `t.val`. -/
theorem PhiS_castSucc (c : Dev nD) (t : Fin cfg0.N) :
    (dats V 0 c).Φ t.castSucc = PhiS V c t.val (Nat.le_of_lt t.isLt) := by
  dsimp only [dats]; exact Pipeline.Dat.Φ_castSucc (PhiS V c) t

/-- What the body leaves, window by window (the proof data's `match` reduced by `dsimp`). -/
theorem after0_0 (c : Dev nD) (t : Fin cfg0.N) : (dats V 0 c).after 0 t = iblk V c 0 t := by dsimp only [dats]
theorem after0_1 (c : Dev nD) (t : Fin cfg0.N) : (dats V 0 c).after 1 t = (outsAt0 V c t.val t.isLt).1 := by dsimp only [dats]

/-- Each input's current staging buffer holds its block at every point, fetched there or not (`beforeK_W_of`). -/
theorem before0_0 (c : Dev nD) (t : Fin cfg0.N) (d) : (dats V 0 c).before 0 t d = iblk V c 0 t :=
  before0_0_of V (dats V 0 c) (A_eq V c 0) (after0_0 V c) t d

/-! ## The body obligation, at a generic point -/

/-- What the body is called with at point `t` (Lib/Pipeline.lean `BodyObligation`'s precondition, the windows one by one), -/
def bodyPre (c : Dev nD) (t : Fin cfg0.N) : sProp 𝕄 :=
  iprop((dats V 0 c).Φ t.castSucc ∗ (dats V 0 c).owesAt () t.castSucc
    ∗ (∃ d, owns (c : Thread nD τ) (ms0_0 t) fullShare ((dats V 0 c).before 0 t d))
    ∗ (∃ d, owns (c : Thread nD τ) (ms0_1 t) fullShare ((dats V 0 c).before 1 t d)))

/-- and what it returns. -/
def bodyPost (c : Dev nD) (t : Fin cfg0.N) : sProp 𝕄 :=
  iprop((dats V 0 c).Φ t.succ ∗ (dats V 0 c).owesAt () t.succ
    ∗ (dats V 0 c).leavesExact 0 t
    ∗ (dats V 0 c).leavesExact 1 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dats V 0 c).owesAt () t.succ = (dats V 0 c).owesAt () t.castSucc from rfl]
  rw [show (dats V 0 c).Φ t.succ = PhiS V c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    · rw [show (dats V 0 c).leavesExact 0 t = owns (c : Thread nD τ) (ms0_0 t) fullShare ((dats V 0 c).after 0 t) from by
      unfold Dat.leavesExact; rw [liveAt0_0 t], after0_0]
      rw [Dat.leavesExact_idle (dats V 0 c) 1 t (idleAt0_1_A t ((hcond0_0 t).mpr h0) (fun h => h1 ((hcond0_1 t).mp h))) (noFlush0_1_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold sout0_A_0; (try dsimp only)
        iintro ⟨⟨⟨HS0, HR1, HR2, HR3, HR4, HR5, HR6, HR7, HR8, HR9, HR10, HR11, HR12, HR13, HR14, HR15, HR16, HR17, HR18, HR19, HR20, HR21, HR22, HR23, HR24, HR25⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk V c 0 t)).2.2 _ Set.univ _)
        isplitl [H0]; · iexact H0
        isplitl [H1]; · iexact H1
        isplitl [HS0]; · iexact HS0
        iintro ⟨H0, H1, ⟨%es0, HS0⟩⟩
        isplitl [HS0 HR1 HR2 HR3 HR4 HR5 HR6 HR7 HR8 HR9 HR10 HR11 HR12 HR13 HR14 HR15 HR16 HR17 HR18 HR19 HR20 HR21 HR22 HR23 HR24 HR25 Hg]
        · isplitl [HS0 HR1 HR2 HR3 HR4 HR5 HR6 HR7 HR8 HR9 HR10 HR11 HR12 HR13 HR14 HR15 HR16 HR17 HR18 HR19 HR20 HR21 HR22 HR23 HR24 HR25]
          · isplitl [HS0]
            · unfold owns; iexists _; isplitr
              swap; · iexact HS0
              ipureintro; exact View.read_writes_of_cover _ _ _ _ _ (scover0_A_0 c _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            isplitl [HR22]
            · iexact HR22
            isplitl [HR23]
            · iexact HR23
            isplitl [HR24]
            · iexact HR24
            iexact HR25
          iexact Hg
        isplitl [Ho]; · iexact Ho
        isplitl [H0]; · iexact H0
        iexists _; iexact H1
      · exfalso; have hN : t.val < 32 := lt_of_lt_of_eq t.isLt (show cfg0.N = 32 from N_0); omega
  · by_cases h1 : t.val % 32 = 31
    · rw [show (dats V 0 c).leavesExact 0 t = owns (c : Thread nD τ) (ms0_0 t) fullShare ((dats V 0 c).after 0 t) from by
      unfold Dat.leavesExact; rw [liveAt0_0 t], after0_0]
      rw [show (dats V 0 c).leavesExact 1 t = owns (c : Thread nD τ) (ms0_1 t) fullShare ((dats V 0 c).after 1 t) from by
      unfold Dat.leavesExact; rw [liveAt0_1_C t (fun h => h0 ((hcond0_0 t).mp h)) ((hcond0_1 t).mpr h1)], after0_1]
      by_cases hz : t.val = 0
      · exfalso; have hN : t.val < 32 := lt_of_lt_of_eq t.isLt (show cfg0.N = 32 from N_0); omega
      · rw [PhiS_castSucc V c t, PhiS_pos V c _ _ hz]
        rw [outsAt0_C V c t h0 h1]
        unfold out0_C_1 sout0_C_0; (try dsimp only)
        iintro ⟨⟨⟨HS0, HR1, HR2, HR3, HR4, HR5, HR6, HR7, HR8, HR9, HR10, HR11, HR12, HR13, HR14, HR15, HR16, HR17, HR18, HR19, HR20, HR21, HR22, HR23, HR24, HR25⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 HR1 HR2 HR3 HR4 HR5 HR6 HR7 HR8 HR9 HR10 HR11 HR12 HR13 HR14 HR15 HR16 HR17 HR18 HR19 HR20 HR21 HR22 HR23 HR24 HR25 Hg]
        · isplitl [HS0 HR1 HR2 HR3 HR4 HR5 HR6 HR7 HR8 HR9 HR10 HR11 HR12 HR13 HR14 HR15 HR16 HR17 HR18 HR19 HR20 HR21 HR22 HR23 HR24 HR25]
          · isplitl [HS0]
            · unfold owns; iexists _; isplitr
              swap; · iexact HS0
              ipureintro; exact View.read_writes_of_cover _ _ _ _ _ (scover0_C_0 c _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            isplitl [HR22]
            · iexact HR22
            isplitl [HR23]
            · iexact HR23
            isplitl [HR24]
            · iexact HR24
            iexact HR25
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dats V 0 c).leavesExact 0 t = owns (c : Thread nD τ) (ms0_0 t) fullShare ((dats V 0 c).after 0 t) from by
      unfold Dat.leavesExact; rw [liveAt0_0 t], after0_0]
      rw [Dat.leavesExact_idle (dats V 0 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc V c t, PhiS_pos V c _ _ hz]
        rw [outsAt0_B V c t h0 h1]
        unfold sout0_B_0; (try dsimp only)
        iintro ⟨⟨⟨HS0, HR1, HR2, HR3, HR4, HR5, HR6, HR7, HR8, HR9, HR10, HR11, HR12, HR13, HR14, HR15, HR16, HR17, HR18, HR19, HR20, HR21, HR22, HR23, HR24, HR25⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk V c 0 t) _).2.2 _ Set.univ _)
        isplitl [H0]; · iexact H0
        isplitl [H1]; · iexact H1
        isplitl [HS0]; · iexact HS0
        iintro ⟨H0, H1, ⟨%es0, HS0⟩⟩
        isplitl [HS0 HR1 HR2 HR3 HR4 HR5 HR6 HR7 HR8 HR9 HR10 HR11 HR12 HR13 HR14 HR15 HR16 HR17 HR18 HR19 HR20 HR21 HR22 HR23 HR24 HR25 Hg]
        · isplitl [HS0 HR1 HR2 HR3 HR4 HR5 HR6 HR7 HR8 HR9 HR10 HR11 HR12 HR13 HR14 HR15 HR16 HR17 HR18 HR19 HR20 HR21 HR22 HR23 HR24 HR25]
          · isplitl [HS0]
            · unfold owns; iexists _; isplitr
              swap; · iexact HS0
              ipureintro; exact View.read_writes_of_cover _ _ _ _ _ (scover0_B_0 c _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            isplitl [HR20]
            · iexact HR20
            isplitl [HR21]
            · iexact HR21
            isplitl [HR22]
            · iexact HR22
            isplitl [HR23]
            · iexact HR23
            isplitl [HR24]
            · iexact HR24
            iexact HR25
          iexact Hg
        isplitl [Ho]; · iexact Ho
        isplitl [H0]; · iexact H0
        iexists _; iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) V 0 c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dats V 0 c).Φ 0 := by
  rw [show (dats V 0 c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats V 0 c).Φ t ⊢ Pipeline.ΦA spec0 c := by
  rw [show (dats V 0 c).Φ t = PhiS V c t.val (Nat.le_of_lt_succ t.isLt) from rfl, PhiS_pos V c _ _ ht, PhiA0_eq]
  iintro ⟨⟨HS0, HR1, HR2, HR3, HR4, HR5, HR6, HR7, HR8, HR9, HR10, HR11, HR12, HR13, HR14, HR15, HR16, HR17, HR18, HR19, HR20, HR21, HR22, HR23, HR24, HR25⟩, Hg⟩
  isplitl [HS0 HR1 HR2 HR3 HR4 HR5 HR6 HR7 HR8 HR9 HR10 HR11 HR12 HR13 HR14 HR15 HR16 HR17 HR18 HR19 HR20 HR21 HR22 HR23 HR24 HR25]
  · isplitl [HS0]
    · iexists _; iexact HS0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    isplitl [HR20]
    · iexact HR20
    isplitl [HR21]
    · iexact HR21
    isplitl [HR22]
    · iexact HR22
    isplitl [HR23]
    · iexact HR23
    isplitl [HR24]
    · iexact HR24
    iexact HR25
  iexact Hg

/-- The same after the last point. -/
theorem hout (c : Dev nD) : (dats V 0 c).Φ (Fin.last cfg0.N) ⊢ Pipeline.ΦA spec0 c :=
  Phi_out V c _ (by rw [Fin.val_last]; have : cfg0.N = 32 := N_0; omega)

end Cert.KernelIdeal.Gamma

end
-- ==== Proof.TernRegion.lean ====
/-
  Region 1 of the program (the ternary weights and their packed form): the windows' blocks, the body's run in each case of its conditionals, what the outputs and the
  carried scratch hold after each grid point, the proof data of the pipeline and its body obligation, for any contents `V` that the
  region is entered from.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.Tern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO1_2 : View sig .tc .vmem S256x6144 .i8 := (Memref.whole cc1_stg2_0 : Memref sig .tc .vmem S256x6144 .i8).view
/-- One staging buffer of output window 3, through which its contents are stated (`View.read_writes_of_cover`: the
    choice does not matter). -/
abbrev VO1_3 : View sig .tc .vmem S256x1536 .i8 := (Memref.whole cc1_stg3_0 : Memref sig .tc .vmem S256x1536 .i8).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x6144 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x6144 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1536 .i8 := win1_3.stage (cfg1.slots t 3)
abbrev hs1_3 (t : Fin cfg1.N) : (ms1_3 t).IsWhole := hstage1_3 ((cfg1.slots t 3).cast nbuf1_3)

-- (the run's proof term is large: the definition's epilogue — `abstractNestedProofs` — walks it past the default budget)
set_option maxHeartbeats 1028000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .smem S1x1 .f32) (harg1 : arg1.IsWhole) (arg2 : Memref sig .tc .vmem S256x6144 .bf16) (harg2 : arg2.IsWhole) (arg3 : Memref sig .tc .vmem S256x6144 .i8) (harg3 : arg3.IsWhole) (arg4 : Memref sig .tc .vmem S256x1536 .i8) (harg4 : arg4.IsWhole)
    (x0 : Vec F S1x1 .f32) (x1 : Vec F S256x6144 .bf16) :
    Σ' (L2 : List (View.Piece (Elt F) S256x6144 .i8)), { L3 : List (View.Piece (Elt F) S256x1536 .i8) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc1_ternarise i arg1 harg1 arg2 harg2 arg3 harg3 arg4 harg4) K } := by
  refine ⟨?_, ?_, fun E K => ?run⟩
  case run =>
    simp only [cc1_ternarise_eq_skeleton]; unfold cc1_ternarise_skel
    simp only [k1_part42_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton]
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- The run's pieces for output 2 tile its block (48 stores of `S256x128`, checked by the kernel's evaluation: Lib/Ring.lean `Piece.tiledL`, linear in the pieces, through a loop's `@[irreducible]` trip theorem too), so they cover it. -/
theorem cover1_A_2 (c : Dev nD) (i : grid1.Coords) (arg1 : Memref sig .tc .smem S1x1 .f32) (harg1 : arg1.IsWhole) (arg2 : Memref sig .tc .vmem S256x6144 .bf16) (harg2 : arg2.IsWhole) (arg3 : Memref sig .tc .vmem S256x6144 .i8) (harg3 : arg3.IsWhole) (arg4 : Memref sig .tc .vmem S256x1536 .i8) (harg4 : arg4.IsWhole)
    (x0 : Vec F S1x1 .f32) (x1 : Vec F S256x6144 .bf16) (y : S256x6144.Idx) :
    ∃ pc ∈ (kernelRun1_A c i arg1 harg1 arg2 harg2 arg3 harg3 arg4 harg4 x0 x1).1, y ∈ pc.1.set :=
  View.cover_of_tiledL (kernelRun1_A c i arg1 harg1 arg2 harg2 arg3 harg3 arg4 harg4 x0 x1).1 S256x128.size (by sl_kernel_rfl) y

/-- What the run leaves in output 2's staging buffer: its pieces read back over junk. -/
def out1_A_2 (c : Dev nD) (i : grid1.Coords) (arg1 : Memref sig .tc .smem S1x1 .f32) (harg1 : arg1.IsWhole) (arg2 : Memref sig .tc .vmem S256x6144 .bf16) (harg2 : arg2.IsWhole) (arg3 : Memref sig .tc .vmem S256x6144 .i8) (harg3 : arg3.IsWhole) (arg4 : Memref sig .tc .vmem S256x1536 .i8) (harg4 : arg4.IsWhole)
    (x0 : Vec F S1x1 .f32) (x1 : Vec F S256x6144 .bf16) : Vec F S256x6144 .i8 :=
  VO1_2.read (Elt F) (VO1_2.writes (Elt F) VO1_2.junk (kernelRun1_A c i arg1 harg1 arg2 harg2 arg3 harg3 arg4 harg4 x0 x1).1)

/-- The run's pieces for output 3 tile its block (12 stores of `S256x128`, checked by the kernel's evaluation: Lib/Ring.lean `Piece.tiledL`, linear in the pieces, through a loop's `@[irreducible]` trip theorem too), so they cover it. -/
theorem cover1_A_3 (c : Dev nD) (i : grid1.Coords) (arg1 : Memref sig .tc .smem S1x1 .f32) (harg1 : arg1.IsWhole) (arg2 : Memref sig .tc .vmem S256x6144 .bf16) (harg2 : arg2.IsWhole) (arg3 : Memref sig .tc .vmem S256x6144 .i8) (harg3 : arg3.IsWhole) (arg4 : Memref sig .tc .vmem S256x1536 .i8) (harg4 : arg4.IsWhole)
    (x0 : Vec F S1x1 .f32) (x1 : Vec F S256x6144 .bf16) (y : S256x1536.Idx) :
    ∃ pc ∈ (kernelRun1_A c i arg1 harg1 arg2 harg2 arg3 harg3 arg4 harg4 x0 x1).2.1, y ∈ pc.1.set :=
  View.cover_of_tiledL (kernelRun1_A c i arg1 harg1 arg2 harg2 arg3 harg3 arg4 harg4 x0 x1).2.1 S256x128.size (by sl_kernel_rfl) y

/-- What the run leaves in output 3's staging buffer: its pieces read back over junk. -/
def out1_A_3 (c : Dev nD) (i : grid1.Coords) (arg1 : Memref sig .tc .smem S1x1 .f32) (harg1 : arg1.IsWhole) (arg2 : Memref sig .tc .vmem S256x6144 .bf16) (harg2 : arg2.IsWhole) (arg3 : Memref sig .tc .vmem S256x6144 .i8) (harg3 : arg3.IsWhole) (arg4 : Memref sig .tc .vmem S256x1536 .i8) (harg4 : arg4.IsWhole)
    (x0 : Vec F S1x1 .f32) (x1 : Vec F S256x6144 .bf16) : Vec F S256x1536 .i8 :=
  VO1_3.read (Elt F) (VO1_3.writes (Elt F) VO1_3.junk (kernelRun1_A c i arg1 harg1 arg2 harg2 arg3 harg3 arg4 harg4 x0 x1).2.1)

/-! ## What the outputs hold after each point -/

/-- What the outputs' staging buffers hold after the body at point `t` (as a tuple, in window order): the run's contents at
    the point's memrefs and input blocks. -/
def outsAt1 (c : Dev nD) (t : Fin cfg1.N) : Vec F S256x6144 .i8 × Vec F S256x1536 .i8 :=
  (out1_A_2 c (grid1.coords t) (ms1_0 t) (hs1_0 t) (ms1_1 t) (hs1_1 t) (ms1_2 t) (hs1_2 t) (ms1_3 t) (hs1_3 t) (iblk V c 0 t) (iblk V c 1 t), out1_A_3 c (grid1.coords t) (ms1_0 t) (hs1_0 t) (ms1_1 t) (hs1_1 t) (ms1_2 t) (hs1_2 t) (ms1_3 t) (hs1_3 t) (iblk V c 0 t) (iblk V c 1 t))

/-! ## The pipeline's proof data -/

/-- The proof data of the one pipeline on core `c`: the arrays as the region finds them (`V`); after the body at
    point `t` each input's buffer at its block and the outputs' at `outsAt1`; the invariant the class's
    (Lib/Pipeline/Frame.lean `ΦA`: the scoped rest and the generator register); nothing owed; full shares. -/
def dats (_ : Fin 4) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt1 V c t).1
    | ⟨3, _⟩ => (outsAt1 V c t).2
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dats V 1 c).A w = V c (Pipeline.arrRef spec1 w) := by
  dsimp only [dats]

/-- What the body leaves, window by window (the proof data's `match` reduced by `dsimp`). -/
theorem after1_0 (c : Dev nD) (t : Fin cfg1.N) : (dats V 1 c).after 0 t = iblk V c 0 t := by dsimp only [dats]
theorem after1_1 (c : Dev nD) (t : Fin cfg1.N) : (dats V 1 c).after 1 t = iblk V c 1 t := by dsimp only [dats]
theorem after1_2 (c : Dev nD) (t : Fin cfg1.N) : (dats V 1 c).after 2 t = (outsAt1 V c t).1 := by dsimp only [dats]
theorem after1_3 (c : Dev nD) (t : Fin cfg1.N) : (dats V 1 c).after 3 t = (outsAt1 V c t).2 := by dsimp only [dats]

/-- Each input's current staging buffer holds its block at every point, fetched there or not (`beforeK_W_of`). -/
theorem before1_0 (c : Dev nD) (t : Fin cfg1.N) (d) : (dats V 1 c).before 0 t d = iblk V c 0 t :=
  before1_0_of V (dats V 1 c) (A_eq V c 0) (after1_0 V c) t d
theorem before1_1 (c : Dev nD) (t : Fin cfg1.N) (d) : (dats V 1 c).before 1 t d = iblk V c 1 t :=
  before1_1_of V (dats V 1 c) (A_eq V c 1) (after1_1 V c) t d

/-! ## The body obligation, at a generic point -/

/-- What the body is called with at point `t` (Lib/Pipeline.lean `BodyObligation`'s precondition, the windows one by one), -/
def bodyPre (c : Dev nD) (t : Fin cfg1.N) : sProp 𝕄 :=
  iprop((dats V 1 c).Φ t.castSucc ∗ (dats V 1 c).owesAt () t.castSucc
    ∗ (∃ d, owns (c : Thread nD τ) (ms1_0 t) fullShare ((dats V 1 c).before 0 t d))
    ∗ (∃ d, owns (c : Thread nD τ) (ms1_1 t) fullShare ((dats V 1 c).before 1 t d))
    ∗ (∃ d, owns (c : Thread nD τ) (ms1_2 t) fullShare ((dats V 1 c).before 2 t d))
    ∗ (∃ d, owns (c : Thread nD τ) (ms1_3 t) fullShare ((dats V 1 c).before 3 t d)))

/-- and what it returns. -/
def bodyPost (c : Dev nD) (t : Fin cfg1.N) : sProp 𝕄 :=
  iprop((dats V 1 c).Φ t.succ ∗ (dats V 1 c).owesAt () t.succ
    ∗ owns (c : Thread nD τ) (ms1_0 t) fullShare ((dats V 1 c).after 0 t)
    ∗ owns (c : Thread nD τ) (ms1_1 t) fullShare ((dats V 1 c).after 1 t)
    ∗ owns (c : Thread nD τ) (ms1_2 t) fullShare ((dats V 1 c).after 2 t)
    ∗ owns (c : Thread nD τ) (ms1_3 t) fullShare ((dats V 1 c).after 3 t))

/-- The body at any point: the inputs' memrefs hold their blocks (`before1_W`); so the
    run applies; the invariant passes through unread; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dats V 1 c).Φ t.succ = (dats V 1 c).Φ t.castSucc from rfl,
    show (dats V 1 c).owesAt () t.succ = (dats V 1 c).owesAt () t.castSucc from rfl,
    after1_0, after1_1, after1_2, after1_3]
  unfold outsAt1
  unfold out1_A_2 out1_A_3; (try dsimp only)
  iintro ⟨HΦ, Ho, ⟨%d0, H0⟩, ⟨%d1, H1⟩, ⟨%d2, H2⟩, ⟨%d3, H3⟩⟩
  iapply ((kernelRun1_A c (grid1.coords t) _ _ _ _ _ _ _ _ (iblk V c 0 t) (iblk V c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover1_A_2 c _ _ _ _ _ _ _ _ _ _ _)
  unfold owns; iexists _; isplitr
  swap; · iexact H3
  ipureintro; exact View.read_writes_of_cover _ _ _ _ _ (cover1_A_3 c _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dats (F := F) V 1 c) (defs₀ (F := F)) Variants.none () Set.univ := fun t => by
  rw [bigSep_W1, bigSep_W1, defs₀_row]
  exact triple_restated (sound_body V c t) rfl .rfl fun _ => .rfl

end Cert.KernelIdeal.Tern

end
-- ==== Proof.QuantRegion.lean ====
/-
  Region 2 of the program (the activations' codes and scales): the windows' blocks, the body's run in each case of its conditionals, what the outputs and the
  carried scratch hold after each grid point, the proof data of the pipeline and its body obligation, for any contents `V` that the
  region is entered from.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.Quant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 1, through which its contents are stated (`View.read_writes_of_cover`: the
    choice does not matter). -/
abbrev VO2_1 : View sig .tc .vmem S128x16384 .i8 := (Memref.whole cc2_stg1_0 : Memref sig .tc .vmem S128x16384 .i8).view
/-- One staging buffer of output window 2, through which its contents are stated (`View.read_writes_of_cover`: the
    choice does not matter). -/
abbrev VO2_2 : View sig .tc .vmem S128x1 .f32 := (Memref.whole cc2_stg2_0 : Memref sig .tc .vmem S128x1 .f32).view
/-- Each window's current staging memref at point `t`, spelled as the pipeline passes it (`bodyAt2`), and its wholeness. -/
abbrev ms2_0 (t : Fin cfg2.N) : Memref sig .tc .vmem S128x16384 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x16384 .i8 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x1 .f32 := win2_2.stage (cfg2.slots t 2)
abbrev hs2_2 (t : Fin cfg2.N) : (ms2_2 t).IsWhole := hstage2_2 ((cfg2.slots t 2).cast nbuf2_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg1 : Memref sig .tc .vmem S128x16384 .bf16) (harg1 : arg1.IsWhole) (arg2 : Memref sig .tc .vmem S128x16384 .i8) (harg2 : arg2.IsWhole) (arg3 : Memref sig .tc .vmem S128x1 .f32) (harg3 : arg3.IsWhole)
    (x0 : Vec F S128x16384 .bf16) :
    Σ' (L1 : List (View.Piece (Elt F) S128x16384 .i8)), { L2 : List (View.Piece (Elt F) S128x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc2_quantise i arg1 harg1 arg2 harg2 arg3 harg3) K } := by
  refine ⟨?_, ?_, fun E K => ?run⟩
  case run =>
    simp only [cc2_quantise_eq_skeleton]; unfold cc2_quantise_skel
    unfold owns
    iintro ⟨⟨%f0, %hf0, H0⟩, ⟨%d1, %f1, -, H1⟩, ⟨%d2, %f2, -, H2⟩, Hk⟩
    obtain rfl := harg1.eq_unread hf0
    sl_exec
    sl_step
    iapply Hk
    isplitl [H0]
    · iexists _; isplitr; · ipureintro; exact harg1.read_unread _
      iexact H0
    isplitl [H1]; · iexists _; iexact H1
    iexists _; iexact H2

/-- The run's pieces for output 1 tile its block (1 store of `S128x16384`, checked by the kernel's evaluation: Lib/Ring.lean `Piece.tiledL`, linear in the pieces, through a loop's `@[irreducible]` trip theorem too), so they cover it. -/
theorem cover2_A_1 (c : Dev nD) (i : grid2.Coords) (arg1 : Memref sig .tc .vmem S128x16384 .bf16) (harg1 : arg1.IsWhole) (arg2 : Memref sig .tc .vmem S128x16384 .i8) (harg2 : arg2.IsWhole) (arg3 : Memref sig .tc .vmem S128x1 .f32) (harg3 : arg3.IsWhole)
    (x0 : Vec F S128x16384 .bf16) (y : S128x16384.Idx) :
    ∃ pc ∈ (kernelRun2_A c i arg1 harg1 arg2 harg2 arg3 harg3 x0).1, y ∈ pc.1.set :=
  View.cover_of_tiledL (kernelRun2_A c i arg1 harg1 arg2 harg2 arg3 harg3 x0).1 S128x16384.size (by sl_kernel_rfl) y

/-- What the run leaves in output 1's staging buffer: its pieces read back over junk. -/
def out2_A_1 (c : Dev nD) (i : grid2.Coords) (arg1 : Memref sig .tc .vmem S128x16384 .bf16) (harg1 : arg1.IsWhole) (arg2 : Memref sig .tc .vmem S128x16384 .i8) (harg2 : arg2.IsWhole) (arg3 : Memref sig .tc .vmem S128x1 .f32) (harg3 : arg3.IsWhole)
    (x0 : Vec F S128x16384 .bf16) : Vec F S128x16384 .i8 :=
  VO2_1.read (Elt F) (VO2_1.writes (Elt F) VO2_1.junk (kernelRun2_A c i arg1 harg1 arg2 harg2 arg3 harg3 x0).1)

/-- The run's pieces for output 2 tile its block (1 store of `S128x1`, checked by the kernel's evaluation: Lib/Ring.lean `Piece.tiledL`, linear in the pieces, through a loop's `@[irreducible]` trip theorem too), so they cover it. -/
theorem cover2_A_2 (c : Dev nD) (i : grid2.Coords) (arg1 : Memref sig .tc .vmem S128x16384 .bf16) (harg1 : arg1.IsWhole) (arg2 : Memref sig .tc .vmem S128x16384 .i8) (harg2 : arg2.IsWhole) (arg3 : Memref sig .tc .vmem S128x1 .f32) (harg3 : arg3.IsWhole)
    (x0 : Vec F S128x16384 .bf16) (y : S128x1.Idx) :
    ∃ pc ∈ (kernelRun2_A c i arg1 harg1 arg2 harg2 arg3 harg3 x0).2.1, y ∈ pc.1.set :=
  View.cover_of_tiledL (kernelRun2_A c i arg1 harg1 arg2 harg2 arg3 harg3 x0).2.1 S128x1.size (by sl_kernel_rfl) y

/-- What the run leaves in output 2's staging buffer: its pieces read back over junk. -/
def out2_A_2 (c : Dev nD) (i : grid2.Coords) (arg1 : Memref sig .tc .vmem S128x16384 .bf16) (harg1 : arg1.IsWhole) (arg2 : Memref sig .tc .vmem S128x16384 .i8) (harg2 : arg2.IsWhole) (arg3 : Memref sig .tc .vmem S128x1 .f32) (harg3 : arg3.IsWhole)
    (x0 : Vec F S128x16384 .bf16) : Vec F S128x1 .f32 :=
  VO2_2.read (Elt F) (VO2_2.writes (Elt F) VO2_2.junk (kernelRun2_A c i arg1 harg1 arg2 harg2 arg3 harg3 x0).2.1)

/-! ## What the outputs hold after each point -/

/-- What the outputs' staging buffers hold after the body at point `t` (as a tuple, in window order): the run's contents at
    the point's memrefs and input blocks. -/
def outsAt2 (c : Dev nD) (t : Fin cfg2.N) : Vec F S128x16384 .i8 × Vec F S128x1 .f32 :=
  (out2_A_1 c (grid2.coords t) (ms2_0 t) (hs2_0 t) (ms2_1 t) (hs2_1 t) (ms2_2 t) (hs2_2 t) (iblk V c 0 t), out2_A_2 c (grid2.coords t) (ms2_0 t) (hs2_0 t) (ms2_1 t) (hs2_1 t) (ms2_2 t) (hs2_2 t) (iblk V c 0 t))

/-! ## The pipeline's proof data -/

/-- The proof data of the one pipeline on core `c`: the arrays as the region finds them (`V`); after the body at
    point `t` each input's buffer at its block and the outputs' at `outsAt2`; the invariant the class's
    (Lib/Pipeline/Frame.lean `ΦA`: the scoped rest and the generator register); nothing owed; full shares. -/
def dats (_ : Fin 4) (c : Dev nD) : Dat τ (Elt F) Unit ℕ (UR sig nD τ) ℕ cfg2 c where
  A w := V c (Pipeline.arrRef spec2 w)
  after w t := match w with
    | ⟨0, _⟩ => iblk V c 0 t
    | ⟨1, _⟩ => (outsAt2 V c t).1
    | ⟨2, _⟩ => (outsAt2 V c t).2
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dats V 2 c).A w = V c (Pipeline.arrRef spec2 w) := by
  dsimp only [dats]

/-- What the body leaves, window by window (the proof data's `match` reduced by `dsimp`). -/
theorem after2_0 (c : Dev nD) (t : Fin cfg2.N) : (dats V 2 c).after 0 t = iblk V c 0 t := by dsimp only [dats]
theorem after2_1 (c : Dev nD) (t : Fin cfg2.N) : (dats V 2 c).after 1 t = (outsAt2 V c t).1 := by dsimp only [dats]
theorem after2_2 (c : Dev nD) (t : Fin cfg2.N) : (dats V 2 c).after 2 t = (outsAt2 V c t).2 := by dsimp only [dats]

/-- Each input's current staging buffer holds its block at every point, fetched there or not (`beforeK_W_of`). -/
theorem before2_0 (c : Dev nD) (t : Fin cfg2.N) (d) : (dats V 2 c).before 0 t d = iblk V c 0 t :=
  before2_0_of V (dats V 2 c) (A_eq V c 0) (after2_0 V c) t d

/-! ## The body obligation, at a generic point -/

/-- What the body is called with at point `t` (Lib/Pipeline.lean `BodyObligation`'s precondition, the windows one by one), -/
def bodyPre (c : Dev nD) (t : Fin cfg2.N) : sProp 𝕄 :=
  iprop((dats V 2 c).Φ t.castSucc ∗ (dats V 2 c).owesAt () t.castSucc
    ∗ (∃ d, owns (c : Thread nD τ) (ms2_0 t) fullShare ((dats V 2 c).before 0 t d))
    ∗ (∃ d, owns (c : Thread nD τ) (ms2_1 t) fullShare ((dats V 2 c).before 1 t d))
    ∗ (∃ d, owns (c : Thread nD τ) (ms2_2 t) fullShare ((dats V 2 c).before 2 t d)))

/-- and what it returns. -/
def bodyPost (c : Dev nD) (t : Fin cfg2.N) : sProp 𝕄 :=
  iprop((dats V 2 c).Φ t.succ ∗ (dats V 2 c).owesAt () t.succ
    ∗ owns (c : Thread nD τ) (ms2_0 t) fullShare ((dats V 2 c).after 0 t)
    ∗ owns (c : Thread nD τ) (ms2_1 t) fullShare ((dats V 2 c).after 1 t)
    ∗ owns (c : Thread nD τ) (ms2_2 t) fullShare ((dats V 2 c).after 2 t))

/-- The body at any point: the inputs' memrefs hold their blocks (`before2_W`); so the
    run applies; the invariant passes through unread; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0]
  rw [show (dats V 2 c).Φ t.succ = (dats V 2 c).Φ t.castSucc from rfl,
    show (dats V 2 c).owesAt () t.succ = (dats V 2 c).owesAt () t.castSucc from rfl,
    after2_0, after2_1, after2_2]
  unfold outsAt2
  unfold out2_A_1 out2_A_2; (try dsimp only)
  iintro ⟨HΦ, Ho, ⟨%d0, H0⟩, ⟨%d1, H1⟩, ⟨%d2, H2⟩⟩
  iapply ((kernelRun2_A c (grid2.coords t) _ _ _ _ _ _ (iblk V c 0 t)).2.2 Set.univ _)
  isplitl [H0]; · iexact H0
  isplitl [H1]; · iexists _; iexact H1
  isplitl [H2]; · iexists _; iexact H2
  iintro ⟨H0, ⟨%e1, H1⟩, ⟨%e2, H2⟩⟩
  isplitl [HΦ]; · iexact HΦ
  isplitl [Ho]; · iexact Ho
  isplitl [H0]; · iexact H0
  isplitl [H1]
  · unfold owns; iexists _; isplitr
    swap; · iexact H1
    ipureintro; exact View.read_writes_of_cover _ _ _ _ _ (cover2_A_1 c _ _ _ _ _ _ _ _)
  unfold owns; iexists _; isplitr
  swap; · iexact H2
  ipureintro; exact View.read_writes_of_cover _ _ _ _ _ (cover2_A_2 c _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dats (F := F) V 2 c) (defs₀ (F := F)) Variants.none () Set.univ := fun t => by
  rw [bigSep_W2, bigSep_W2, defs₀_row]
  exact triple_restated (sound_body V c t) rfl .rfl fun _ => .rfl

end Cert.KernelIdeal.Quant

end
-- ==== Proof.MatmulRegion.lean ====
/-
  Region 3 of the program (the scaled matrix product): the windows' blocks, the body's run in each case of its conditionals, what the outputs and the
  carried scratch hold after each grid point, the proof data of the pipeline and its body obligation, for any contents `V` that the
  region is entered from.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k3_h1`), from the grid coordinates (the skeleton's scalar
    chain substituted). -/
abbrev cond3_0 (i : grid3.Coords) : Prop := (Scalar.cmpi .ne (Scalar.extui (Scalar.cmpi .eq (BitVec.ofNat 32 (i 2).val) 0#32)) 0#32) = 1#1
/-- It holds at the points ≡ 0 (mod 16) — by arithmetic of the point. -/
theorem hcond3_0 : ∀ t : Fin cfg3.N, cond3_0 (grid3.coords t) ↔ t.val % 16 = 0 :=
  (fun t => by
    have ht : t.val < 192 := Nat.lt_of_lt_of_eq t.isLt N_3
    have e0 : (grid3.coords t 0).val = t.val / 48 % 4 := Pipeline.Grid.coords_val t 0 (by decide) rfl
    have e1 : (grid3.coords t 1).val = t.val / 16 % 3 := Pipeline.Grid.coords_val t 1 (by decide) rfl
    have e2 : (grid3.coords t 2).val = t.val / 1 % 16 := Pipeline.Grid.coords_val t 2 (by decide) rfl
    simp only [cond3_0, e0, e1, e2]
    word_cmp
   : ∀ t : Fin grid3.N, cond3_0 (grid3.coords t) ↔ t.val % 16 = 0)

/-- The condition of the body's `scf.if` 1 (`k3_h2`), from the grid coordinates (the skeleton's scalar
    chain substituted). -/
abbrev cond3_1 (i : grid3.Coords) : Prop := k3_cond2 i = 1#1
/-- It holds at the points ≡ 15 (mod 16) — by arithmetic of the point. -/
theorem hcond3_1 : ∀ t : Fin cfg3.N, cond3_1 (grid3.coords t) ↔ t.val % 16 = 15 :=
  (fun t => by
    have ht : t.val < 192 := Nat.lt_of_lt_of_eq t.isLt N_3
    have e0 : (grid3.coords t 0).val = t.val / 48 % 4 := Pipeline.Grid.coords_val t 0 (by decide) rfl
    have e1 : (grid3.coords t 1).val = t.val / 16 % 3 := Pipeline.Grid.coords_val t 1 (by decide) rfl
    have e2 : (grid3.coords t 2).val = t.val / 1 % 16 := Pipeline.Grid.coords_val t 2 (by decide) rfl
    simp only [cond3_1, k3_cond2, e0, e1, e2]
    word_cmp
   : ∀ t : Fin grid3.N, cond3_1 (grid3.coords t) ↔ t.val % 16 = 15)

/-! ## Where the windows are idle (the printed configuration's table `Cfg.idle`) -/

/-- Window 0 is never idle (an input). -/
theorem liveAt3_0 : ∀ t : Fin cfg3.N, cfg3.idle 0 (grid3.coords t) = false := fun _ => rfl
/-- Window 1 is never idle (an input). -/
theorem liveAt3_1 : ∀ t : Fin cfg3.N, cfg3.idle 1 (grid3.coords t) = false := fun _ => rfl
/-- Window 2 is never idle (an input). -/
theorem liveAt3_2 : ∀ t : Fin cfg3.N, cfg3.idle 2 (grid3.coords t) = false := fun _ => rfl
/-- Window 3 is never idle (an input). -/
theorem liveAt3_3 : ∀ t : Fin cfg3.N, cfg3.idle 3 (grid3.coords t) = false := fun _ => rfl
/-- At the points of case A the printed configuration (`Cfg.idle`) calls output 4 idle: the case stores nothing into it. -/
theorem idleAt3_4_A : ∀ t : Fin cfg3.N, cond3_0 (grid3.coords t) → ¬cond3_1 (grid3.coords t) → cfg3.idle 4 (grid3.coords t) = true := by decide +kernel
/-- At the points of case A the pipeline does not write output 4's block back. -/
theorem noFlush3_4_A : ∀ t : Fin cfg3.N, cond3_0 (grid3.coords t) → ¬cond3_1 (grid3.coords t) → (cfg3.win 4).flush t = false := by decide +kernel
/-- At the points of case B the printed configuration (`Cfg.idle`) calls output 4 idle: the case stores nothing into it. -/
theorem idleAt3_4_B : ∀ t : Fin cfg3.N, ¬cond3_0 (grid3.coords t) → ¬cond3_1 (grid3.coords t) → cfg3.idle 4 (grid3.coords t) = true := by decide +kernel
/-- At the points of case B the pipeline does not write output 4's block back. -/
theorem noFlush3_4_B : ∀ t : Fin cfg3.N, ¬cond3_0 (grid3.coords t) → ¬cond3_1 (grid3.coords t) → (cfg3.win 4).flush t = false := by decide +kernel
/-- At the points of case C the printed configuration (`Cfg.idle`) calls output 4 live: the case stores into it. -/
theorem liveAt3_4_C : ∀ t : Fin cfg3.N, ¬cond3_0 (grid3.coords t) → cond3_1 (grid3.coords t) → cfg3.idle 4 (grid3.coords t) = false := by decide +kernel

/-! ## The kernel body on any staging memrefs: a subtype the run finds -/

/-- One staging buffer of output window 4, through which its contents are stated (`View.read_writes_of_cover`: the
    choice does not matter). -/
abbrev VO3_4 : View sig .tc .vmem S2048x2048 .bf16 := (Memref.whole cc3_stg4_0 : Memref sig .tc .vmem S2048x2048 .bf16).view
/-- Each window's current staging memref at point `t`, spelled as the pipeline passes it (`bodyAt3`), and its wholeness. -/
abbrev ms3_0 (t : Fin cfg3.N) : Memref sig .tc .smem S1x1 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1024 .i8 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x2048 .i8 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2048x2048 .bf16 := win3_4.stage (cfg3.slots t 4)
abbrev hs3_4 (t : Fin cfg3.N) : (ms3_4 t).IsWhole := hstage3_4 ((cfg3.slots t 4).cast nbuf3_4)
/-- The scratch operands: whole scoped buffers of the kernel's own, passed beside the windows. -/
abbrev scM3_0 : Memref sig .tc .vmem S2048x2048 .f32 := Memref.whole cc3_scratch0
abbrev scM3_1 : Memref sig .tc .vmem S2x1024x512 .bf16 := Memref.whole cc3_scratch1
abbrev scM3_2 : Memref sig .tc .vmem S2x512x1024 .bf16 := Memref.whole cc3_scratch2
/-- The scratch `arg8` the kernel carries between points, as a view: what it holds is stated through it. -/
abbrev VS3_0 : View sig .tc .vmem S2048x2048 .f32 := scM3_0.view

/-- The frame kit's invariant with the scratch operands as memrefs owned at some contents (`Gen.scopedRest3_eq`,
    Lib/Memref.lean `owns_whole`): what the body obligation hands the run and takes back. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ d, owns (c : Thread nD τ) scM3_0 fullShare d) ∗ (∃ d, owns (c : Thread nD τ) scM3_1 fullShare d) ∗ (∃ d, owns (c : Thread nD τ) scM3_2 fullShare d) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f)) ∗ (∃ r, prngReg c r)) := by
  unfold Pipeline.ΦA; rw [scopedRest3_eq]; simp only [scM3_0, scM3_1, scM3_2, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, … 176: 12 of 192), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_A (c : Dev nD) (i : grid3.Coords) (arg3 : Memref sig .tc .smem S1x1 .f32) (harg3 : arg3.IsWhole) (arg4 : Memref sig .tc .vmem S2048x1024 .i8) (harg4 : arg4.IsWhole) (arg5 : Memref sig .tc .vmem S1024x2048 .i8) (harg5 : arg5.IsWhole) (arg6 : Memref sig .tc .vmem S2048x1 .f32) (harg6 : arg6.IsWhole) (arg7 : Memref sig .tc .vmem S2048x2048 .bf16) (harg7 : arg7.IsWhole) (arg8 : Memref sig .tc .vmem S2048x2048 .f32) (harg8 : arg8.IsWhole) (arg9 : Memref sig .tc .vmem S2x1024x512 .bf16) (harg9 : arg9.IsWhole) (arg10 : Memref sig .tc .vmem S2x512x1024 .bf16) (harg10 : arg10.IsWhole) (hc0 : cond3_0 i) (hc1 : ¬cond3_1 i)
    (x0 : Vec F S1x1 .f32) (x1 : Vec F S2048x1024 .i8) (x2 : Vec F S1024x2048 .i8) (x3 : Vec F S2048x1 .f32) :
    Σ' (L4 : List (View.Piece (Elt F) S2048x2048 .bf16)), Σ' (LS0 : List (View.Piece (Elt F) S2048x2048 .f32)), Σ' (LT1 : List (View.Piece (Elt F) S2x1024x512 .bf16)), { LT2 : List (View.Piece (Elt F) S2x512x1024 .bf16) //
      ∀ (xi4 : Vec F S2048x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1) ∗ (∃ f, arg10.view.loc (c : Thread nD τ) ↦[arg10.view.set]{fullShare} arg10.view.writes (Elt F) f LT2)) -∗ K ⟨⟩))
          ⊢ wp frame (wpE (defs₀ (F := F)) Variants.none c none) E (cc3_matmul i arg3 harg3 arg4 harg4 arg5 harg5 arg6 harg6 arg7 harg7 arg8 harg8 arg9 harg9 arg10 harg10) K } := by
  refine ⟨[], ?_, ?_, ?_, fun xi4 E K => ?run⟩
  case run =>
    simp only [cc3_matmul_eq_skeleton]; unfold cc3_matmul_skel
    simp only [k3_part1_eq_skeleton, k3_part2_eq_skeleton, k3_part3_eq_skeleton, k3_part4_eq_skeleton, k3_part5_eq_skeleton, k3_part6_eq_skeleton, k3_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

/-- Case A stores nothing into output 4 (the window is idle at its points and not written back there):
    no pieces — a placeholder (junk read back) that nothing consults, since at these points the window is neither
    written back nor read at the next point (Lib/Pipeline.lean "Idle points"). -/
def out3_A_4 (c : Dev nD) (i : grid3.Coords) (arg3 : Memref sig .tc .smem S1x1 .f32) (harg3 : arg3.IsWhole) (arg4 : Memref sig .tc .vmem S2048x1024 .i8) (harg4 : arg4.IsWhole) (arg5 : Memref sig .tc .vmem S1024x2048 .i8) (harg5 : arg5.IsWhole) (arg6 : Memref sig .tc .vmem S2048x1 .f32) (harg6 : arg6.IsWhole) (arg7 : Memref sig .tc .vmem S2048x2048 .bf16) (harg7 : arg7.IsWhole) (arg8 : Memref sig .tc .vmem S2048x2048 .f32) (harg8 : arg8.IsWhole) (arg9 : Memref sig .tc .vmem S2x1024x512 .bf16) (harg9 : arg9.IsWhole) (arg10 : Memref sig .tc .vmem S2x512x1024 .bf16) (harg10 : arg10.IsWhole) (hc0 : cond3_0 i) (hc1 : ¬cond3_1 i)
    (x0 : Vec F S1x1 .f32) (x1 : Vec F S2048x1024 .i8) (x2 : Vec F S1024x2048 .i8) (x3 : Vec F S2048x1 .f32) : Vec F S2048x2048 .bf16 :=
  VO3_4.read (Elt F) (VO3_4.writes (Elt F) VO3_4.junk (kernelRun3_A c i arg3 harg3 arg4 harg4 arg5 harg5 arg6 harg6 arg7 harg7 arg8 harg8 arg9 harg9 arg10 harg10 hc0 hc1 x0 x1 x2 x3).1)

/-- Case A's pieces for scratch `arg8`, which the kernel carries between points, cover it: one of them a store of the WHOLE buffer (Lib/Ring.lean `sl_whole_mem`). -/
theorem scover3_A_0 (c : Dev nD) (i : grid3.Coords) (arg3 : Memref sig .tc .smem S1x1 .f32) (harg3 : arg3.IsWhole) (arg4 : Memref sig .tc .vmem S2048x1024 .i8) (harg4 : arg4.IsWhole) (arg5 : Memref sig .tc .vmem S1024x2048 .i8) (harg5 : arg5.IsWhole) (arg6 : Memref sig .tc .vmem S2048x1 .f32) (harg6 : arg6.IsWhole) (arg7 : Memref sig .tc .vmem S2048x2048 .bf16) (harg7 : arg7.IsWhole) (arg8 : Memref sig .tc .vmem S2048x2048 .f32) (harg8 : arg8.IsWhole) (arg9 : Memref sig .tc .vmem S2x1024x512 .bf16) (harg9 : arg9.IsWhole) (arg10 : Memref sig .tc .vmem S2x512x1024 .bf16) (harg10 : arg10.IsWhole) (hc0 : cond3_0 i) (hc1 : ¬cond3_1 i)
    (x0 : Vec F S1x1 .f32) (x1 : Vec F S2048x1024 .i8) (x2 : Vec F S1024x2048 .i8) (x3 : Vec F S2048x1 .f32) (y : S2048x2048.Idx) :
    ∃ pc ∈ (kernelRun3_A c i arg3 harg3 arg4 harg4 arg5 harg5 arg6 harg6 arg7 harg7 arg8 harg8 arg9 harg9 arg10 harg10 hc0 hc1 x0 x1 x2 x3).2.1, y ∈ pc.1.set :=
  View.cover_of_wholeMem (kernelRun3_A c i arg3 harg3 arg4 harg4 arg5 harg5 arg6 harg6 arg7 harg7 arg8 harg8 arg9 harg9 arg10 harg10 hc0 hc1 x0 x1 x2 x3).2.1 (by sl_whole_mem) y

/-- What case A leaves in scratch `arg8`: its pieces read back over junk. -/
def sout3_A_0 (c : Dev nD) (i : grid3.Coords) (arg3 : Memref sig .tc .smem S1x1 .f32) (harg3 : arg3.IsWhole) (arg4 : Memref sig .tc .vmem S2048x1024 .i8) (harg4 : arg4.IsWhole) (arg5 : Memref sig .tc .vmem S1024x2048 .i8) (harg5 : arg5.IsWhole) (arg6 : Memref sig .tc .vmem S2048x1 .f32) (harg6 : arg6.IsWhole) (arg7 : Memref sig .tc .vmem S2048x2048 .bf16) (harg7 : arg7.IsWhole) (arg8 : Memref sig .tc .vmem S2048x2048 .f32) (harg8 : arg8.IsWhole) (arg9 : Memref sig .tc .vmem S2x1024x512 .bf16) (harg9 : arg9.IsWhole) (arg10 : Memref sig .tc .vmem S2x512x1024 .bf16) (harg10 : arg10.IsWhole) (hc0 : cond3_0 i) (hc1 : ¬cond3_1 i)
    (x0 : Vec F S1x1 .f32) (x1 : Vec F S2048x1024 .i8) (x2 : Vec F S1024x2048 .i8) (x3 : Vec F S2048x1 .f32) : Vec F S2048x2048 .f32 :=
  VS3_0.read (Elt F) (VS3_0.writes (Elt F) VS3_0.junk (kernelRun3_A c i arg3 harg3 arg4 harg4 arg5 harg5 arg6 harg6 arg7 harg7 arg8 harg8 arg9 harg9 arg10 harg10 hc0 hc1 x0 x1 x2 x3).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 190: 168 of 192), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_B (c : Dev nD) (i : grid3.Coords) (arg3 : Memref sig .tc .smem S1x1 .f32) (harg3 : arg3.IsWhole) (arg4 : Memref sig .tc .vmem S2048x1024 .i8) (harg4 : arg4.IsWhole) (arg5 : Memref sig .tc .vmem S1024x2048 .i8) (harg5 : arg5.IsWhole) (arg6 : Memref sig .tc .vmem S2048x1 .f32) (harg6 : arg6.IsWhole) (arg7 : Memref sig .tc .vmem S2048x2048 .bf16) (harg7 : arg7.IsWhole) (arg8 : Memref sig .tc .vmem S2048x2048 .f32) (harg8 : arg8.IsWhole) (arg9 : Memref sig .tc .vmem S2x1024x512 .bf16) (harg9 : arg9.IsWhole) (arg10 : Memref sig .tc .vmem S2x512x1024 .bf16) (harg10 : arg10.IsWhole) (hc0 : ¬cond3_0 i) (hc1 : ¬cond3_1 i)
    (x0 : Vec F S1x1 .f32) (x1 : Vec F S2048x1024 .i8) (x2 : Vec F S1024x2048 .i8) (x3 : Vec F S2048x1 .f32) (xs0 : Vec F S2048x2048 .f32) :
    Σ' (L4 : List (View.Piece (Elt F) S2048x2048 .bf16)), Σ' (LS0 : List (View.Piece (Elt F) S2048x2048 .f32)), Σ' (LT1 : List (View.Piece (Elt F) S2x1024x512 .bf16)), { LT2 : List (View.Piece (Elt F) S2x512x1024 .bf16) //
      ∀ (xi4 : Vec F S2048x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1) ∗ (∃ f, arg10.view.loc (c : Thread nD τ) ↦[arg10.view.set]{fullShare} arg10.view.writes (Elt F) f LT2)) -∗ K ⟨⟩))
          ⊢ wp frame (wpE (defs₀ (F := F)) Variants.none c none) E (cc3_matmul i arg3 harg3 arg4 harg4 arg5 harg5 arg6 harg6 arg7 harg7 arg8 harg8 arg9 harg9 arg10 harg10) K } := by
  refine ⟨[], ?_, ?_, ?_, fun xi4 E K => ?run⟩
  case run =>
    simp only [cc3_matmul_eq_skeleton]; unfold cc3_matmul_skel
    simp only [k3_part1_eq_skeleton, k3_part2_eq_skeleton, k3_part3_eq_skeleton, k3_part4_eq_skeleton, k3_part5_eq_skeleton, k3_part6_eq_skeleton, k3_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

/-- Case B stores nothing into output 4 (the window is idle at its points and not written back there):
    no pieces — a placeholder (junk read back) that nothing consults, since at these points the window is neither
    written back nor read at the next point (Lib/Pipeline.lean "Idle points"). -/
def out3_B_4 (c : Dev nD) (i : grid3.Coords) (arg3 : Memref sig .tc .smem S1x1 .f32) (harg3 : arg3.IsWhole) (arg4 : Memref sig .tc .vmem S2048x1024 .i8) (harg4 : arg4.IsWhole) (arg5 : Memref sig .tc .vmem S1024x2048 .i8) (harg5 : arg5.IsWhole) (arg6 : Memref sig .tc .vmem S2048x1 .f32) (harg6 : arg6.IsWhole) (arg7 : Memref sig .tc .vmem S2048x2048 .bf16) (harg7 : arg7.IsWhole) (arg8 : Memref sig .tc .vmem S2048x2048 .f32) (harg8 : arg8.IsWhole) (arg9 : Memref sig .tc .vmem S2x1024x512 .bf16) (harg9 : arg9.IsWhole) (arg10 : Memref sig .tc .vmem S2x512x1024 .bf16) (harg10 : arg10.IsWhole) (hc0 : ¬cond3_0 i) (hc1 : ¬cond3_1 i)
    (x0 : Vec F S1x1 .f32) (x1 : Vec F S2048x1024 .i8) (x2 : Vec F S1024x2048 .i8) (x3 : Vec F S2048x1 .f32) (xs0 : Vec F S2048x2048 .f32) : Vec F S2048x2048 .bf16 :=
  VO3_4.read (Elt F) (VO3_4.writes (Elt F) VO3_4.junk (kernelRun3_B c i arg3 harg3 arg4 harg4 arg5 harg5 arg6 harg6 arg7 harg7 arg8 harg8 arg9 harg9 arg10 harg10 hc0 hc1 x0 x1 x2 x3 xs0).1)

/-- Case B's pieces for scratch `arg8`, which the kernel carries between points, cover it: 12 pieces of `S1024x1024` tiling it (Lib/Ring.lean `Piece.tiledL`). -/
theorem scover3_B_0 (c : Dev nD) (i : grid3.Coords) (arg3 : Memref sig .tc .smem S1x1 .f32) (harg3 : arg3.IsWhole) (arg4 : Memref sig .tc .vmem S2048x1024 .i8) (harg4 : arg4.IsWhole) (arg5 : Memref sig .tc .vmem S1024x2048 .i8) (harg5 : arg5.IsWhole) (arg6 : Memref sig .tc .vmem S2048x1 .f32) (harg6 : arg6.IsWhole) (arg7 : Memref sig .tc .vmem S2048x2048 .bf16) (harg7 : arg7.IsWhole) (arg8 : Memref sig .tc .vmem S2048x2048 .f32) (harg8 : arg8.IsWhole) (arg9 : Memref sig .tc .vmem S2x1024x512 .bf16) (harg9 : arg9.IsWhole) (arg10 : Memref sig .tc .vmem S2x512x1024 .bf16) (harg10 : arg10.IsWhole) (hc0 : ¬cond3_0 i) (hc1 : ¬cond3_1 i)
    (x0 : Vec F S1x1 .f32) (x1 : Vec F S2048x1024 .i8) (x2 : Vec F S1024x2048 .i8) (x3 : Vec F S2048x1 .f32) (xs0 : Vec F S2048x2048 .f32) (y : S2048x2048.Idx) :
    ∃ pc ∈ (kernelRun3_B c i arg3 harg3 arg4 harg4 arg5 harg5 arg6 harg6 arg7 harg7 arg8 harg8 arg9 harg9 arg10 harg10 hc0 hc1 x0 x1 x2 x3 xs0).2.1, y ∈ pc.1.set :=
  View.cover_of_tiledL (kernelRun3_B c i arg3 harg3 arg4 harg4 arg5 harg5 arg6 harg6 arg7 harg7 arg8 harg8 arg9 harg9 arg10 harg10 hc0 hc1 x0 x1 x2 x3 xs0).2.1 S1024x1024.size (by sl_kernel_rfl) y

/-- What case B leaves in scratch `arg8`: its pieces read back over junk. -/
def sout3_B_0 (c : Dev nD) (i : grid3.Coords) (arg3 : Memref sig .tc .smem S1x1 .f32) (harg3 : arg3.IsWhole) (arg4 : Memref sig .tc .vmem S2048x1024 .i8) (harg4 : arg4.IsWhole) (arg5 : Memref sig .tc .vmem S1024x2048 .i8) (harg5 : arg5.IsWhole) (arg6 : Memref sig .tc .vmem S2048x1 .f32) (harg6 : arg6.IsWhole) (arg7 : Memref sig .tc .vmem S2048x2048 .bf16) (harg7 : arg7.IsWhole) (arg8 : Memref sig .tc .vmem S2048x2048 .f32) (harg8 : arg8.IsWhole) (arg9 : Memref sig .tc .vmem S2x1024x512 .bf16) (harg9 : arg9.IsWhole) (arg10 : Memref sig .tc .vmem S2x512x1024 .bf16) (harg10 : arg10.IsWhole) (hc0 : ¬cond3_0 i) (hc1 : ¬cond3_1 i)
    (x0 : Vec F S1x1 .f32) (x1 : Vec F S2048x1024 .i8) (x2 : Vec F S1024x2048 .i8) (x3 : Vec F S2048x1 .f32) (xs0 : Vec F S2048x2048 .f32) : Vec F S2048x2048 .f32 :=
  VS3_0.read (Elt F) (VS3_0.writes (Elt F) VS3_0.junk (kernelRun3_B c i arg3 harg3 arg4 harg4 arg5 harg5 arg6 harg6 arg7 harg7 arg8 harg8 arg9 harg9 arg10 harg10 hc0 hc1 x0 x1 x2 x3 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15, 31, … 191: 12 of 192), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_C (c : Dev nD) (i : grid3.Coords) (arg3 : Memref sig .tc .smem S1x1 .f32) (harg3 : arg3.IsWhole) (arg4 : Memref sig .tc .vmem S2048x1024 .i8) (harg4 : arg4.IsWhole) (arg5 : Memref sig .tc .vmem S1024x2048 .i8) (harg5 : arg5.IsWhole) (arg6 : Memref sig .tc .vmem S2048x1 .f32) (harg6 : arg6.IsWhole) (arg7 : Memref sig .tc .vmem S2048x2048 .bf16) (harg7 : arg7.IsWhole) (arg8 : Memref sig .tc .vmem S2048x2048 .f32) (harg8 : arg8.IsWhole) (arg9 : Memref sig .tc .vmem S2x1024x512 .bf16) (harg9 : arg9.IsWhole) (arg10 : Memref sig .tc .vmem S2x512x1024 .bf16) (harg10 : arg10.IsWhole) (hc0 : ¬cond3_0 i) (hc1 : cond3_1 i)
    (x0 : Vec F S1x1 .f32) (x1 : Vec F S2048x1024 .i8) (x2 : Vec F S1024x2048 .i8) (x3 : Vec F S2048x1 .f32) (xs0 : Vec F S2048x2048 .f32) :
    Σ' (L4 : List (View.Piece (Elt F) S2048x2048 .bf16)), Σ' (LS0 : List (View.Piece (Elt F) S2048x2048 .f32)), Σ' (LT1 : List (View.Piece (Elt F) S2x1024x512 .bf16)), { LT2 : List (View.Piece (Elt F) S2x512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1) ∗ (∃ f, arg10.view.loc (c : Thread nD τ) ↦[arg10.view.set]{fullShare} arg10.view.writes (Elt F) f LT2)) -∗ K ⟨⟩))
          ⊢ wp frame (wpE (defs₀ (F := F)) Variants.none c none) E (cc3_matmul i arg3 harg3 arg4 harg4 arg5 harg5 arg6 harg6 arg7 harg7 arg8 harg8 arg9 harg9 arg10 harg10) K } := by
  refine ⟨?_, ?_, ?_, ?_, fun E K => ?run⟩
  case run =>
    simp only [cc3_matmul_eq_skeleton]; unfold cc3_matmul_skel
    simp only [k3_part1_eq_skeleton, k3_part2_eq_skeleton, k3_part3_eq_skeleton, k3_part4_eq_skeleton, k3_part5_eq_skeleton, k3_part6_eq_skeleton, k3_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

/-- Case C's pieces for output 4 tile its block (1 store of `S2048x2048`, checked by the kernel's evaluation: Lib/Ring.lean `Piece.tiledL`, linear in the pieces, through a loop's `@[irreducible]` trip theorem too), so they cover it. -/
theorem cover3_C_4 (c : Dev nD) (i : grid3.Coords) (arg3 : Memref sig .tc .smem S1x1 .f32) (harg3 : arg3.IsWhole) (arg4 : Memref sig .tc .vmem S2048x1024 .i8) (harg4 : arg4.IsWhole) (arg5 : Memref sig .tc .vmem S1024x2048 .i8) (harg5 : arg5.IsWhole) (arg6 : Memref sig .tc .vmem S2048x1 .f32) (harg6 : arg6.IsWhole) (arg7 : Memref sig .tc .vmem S2048x2048 .bf16) (harg7 : arg7.IsWhole) (arg8 : Memref sig .tc .vmem S2048x2048 .f32) (harg8 : arg8.IsWhole) (arg9 : Memref sig .tc .vmem S2x1024x512 .bf16) (harg9 : arg9.IsWhole) (arg10 : Memref sig .tc .vmem S2x512x1024 .bf16) (harg10 : arg10.IsWhole) (hc0 : ¬cond3_0 i) (hc1 : cond3_1 i)
    (x0 : Vec F S1x1 .f32) (x1 : Vec F S2048x1024 .i8) (x2 : Vec F S1024x2048 .i8) (x3 : Vec F S2048x1 .f32) (xs0 : Vec F S2048x2048 .f32) (y : S2048x2048.Idx) :
    ∃ pc ∈ (kernelRun3_C c i arg3 harg3 arg4 harg4 arg5 harg5 arg6 harg6 arg7 harg7 arg8 harg8 arg9 harg9 arg10 harg10 hc0 hc1 x0 x1 x2 x3 xs0).1, y ∈ pc.1.set :=
  View.cover_of_tiledL (kernelRun3_C c i arg3 harg3 arg4 harg4 arg5 harg5 arg6 harg6 arg7 harg7 arg8 harg8 arg9 harg9 arg10 harg10 hc0 hc1 x0 x1 x2 x3 xs0).1 S2048x2048.size (by sl_kernel_rfl) y

/-- What case C leaves in output 4's staging buffer: its pieces read back over junk. -/
def out3_C_4 (c : Dev nD) (i : grid3.Coords) (arg3 : Memref sig .tc .smem S1x1 .f32) (harg3 : arg3.IsWhole) (arg4 : Memref sig .tc .vmem S2048x1024 .i8) (harg4 : arg4.IsWhole) (arg5 : Memref sig .tc .vmem S1024x2048 .i8) (harg5 : arg5.IsWhole) (arg6 : Memref sig .tc .vmem S2048x1 .f32) (harg6 : arg6.IsWhole) (arg7 : Memref sig .tc .vmem S2048x2048 .bf16) (harg7 : arg7.IsWhole) (arg8 : Memref sig .tc .vmem S2048x2048 .f32) (harg8 : arg8.IsWhole) (arg9 : Memref sig .tc .vmem S2x1024x512 .bf16) (harg9 : arg9.IsWhole) (arg10 : Memref sig .tc .vmem S2x512x1024 .bf16) (harg10 : arg10.IsWhole) (hc0 : ¬cond3_0 i) (hc1 : cond3_1 i)
    (x0 : Vec F S1x1 .f32) (x1 : Vec F S2048x1024 .i8) (x2 : Vec F S1024x2048 .i8) (x3 : Vec F S2048x1 .f32) (xs0 : Vec F S2048x2048 .f32) : Vec F S2048x2048 .bf16 :=
  VO3_4.read (Elt F) (VO3_4.writes (Elt F) VO3_4.junk (kernelRun3_C c i arg3 harg3 arg4 harg4 arg5 harg5 arg6 harg6 arg7 harg7 arg8 harg8 arg9 harg9 arg10 harg10 hc0 hc1 x0 x1 x2 x3 xs0).1)

/-- Case C's pieces for scratch `arg8`, which the kernel carries between points, cover it: 12 pieces of `S1024x1024` tiling it (Lib/Ring.lean `Piece.tiledL`). -/
theorem scover3_C_0 (c : Dev nD) (i : grid3.Coords) (arg3 : Memref sig .tc .smem S1x1 .f32) (harg3 : arg3.IsWhole) (arg4 : Memref sig .tc .vmem S2048x1024 .i8) (harg4 : arg4.IsWhole) (arg5 : Memref sig .tc .vmem S1024x2048 .i8) (harg5 : arg5.IsWhole) (arg6 : Memref sig .tc .vmem S2048x1 .f32) (harg6 : arg6.IsWhole) (arg7 : Memref sig .tc .vmem S2048x2048 .bf16) (harg7 : arg7.IsWhole) (arg8 : Memref sig .tc .vmem S2048x2048 .f32) (harg8 : arg8.IsWhole) (arg9 : Memref sig .tc .vmem S2x1024x512 .bf16) (harg9 : arg9.IsWhole) (arg10 : Memref sig .tc .vmem S2x512x1024 .bf16) (harg10 : arg10.IsWhole) (hc0 : ¬cond3_0 i) (hc1 : cond3_1 i)
    (x0 : Vec F S1x1 .f32) (x1 : Vec F S2048x1024 .i8) (x2 : Vec F S1024x2048 .i8) (x3 : Vec F S2048x1 .f32) (xs0 : Vec F S2048x2048 .f32) (y : S2048x2048.Idx) :
    ∃ pc ∈ (kernelRun3_C c i arg3 harg3 arg4 harg4 arg5 harg5 arg6 harg6 arg7 harg7 arg8 harg8 arg9 harg9 arg10 harg10 hc0 hc1 x0 x1 x2 x3 xs0).2.1, y ∈ pc.1.set :=
  View.cover_of_tiledL (kernelRun3_C c i arg3 harg3 arg4 harg4 arg5 harg5 arg6 harg6 arg7 harg7 arg8 harg8 arg9 harg9 arg10 harg10 hc0 hc1 x0 x1 x2 x3 xs0).2.1 S1024x1024.size (by sl_kernel_rfl) y

/-- What case C leaves in scratch `arg8`: its pieces read back over junk. -/
def sout3_C_0 (c : Dev nD) (i : grid3.Coords) (arg3 : Memref sig .tc .smem S1x1 .f32) (harg3 : arg3.IsWhole) (arg4 : Memref sig .tc .vmem S2048x1024 .i8) (harg4 : arg4.IsWhole) (arg5 : Memref sig .tc .vmem S1024x2048 .i8) (harg5 : arg5.IsWhole) (arg6 : Memref sig .tc .vmem S2048x1 .f32) (harg6 : arg6.IsWhole) (arg7 : Memref sig .tc .vmem S2048x2048 .bf16) (harg7 : arg7.IsWhole) (arg8 : Memref sig .tc .vmem S2048x2048 .f32) (harg8 : arg8.IsWhole) (arg9 : Memref sig .tc .vmem S2x1024x512 .bf16) (harg9 : arg9.IsWhole) (arg10 : Memref sig .tc .vmem S2x512x1024 .bf16) (harg10 : arg10.IsWhole) (hc0 : ¬cond3_0 i) (hc1 : cond3_1 i)
    (x0 : Vec F S1x1 .f32) (x1 : Vec F S2048x1024 .i8) (x2 : Vec F S1024x2048 .i8) (x3 : Vec F S2048x1 .f32) (xs0 : Vec F S2048x2048 .f32) : Vec F S2048x2048 .f32 :=
  VS3_0.read (Elt F) (VS3_0.writes (Elt F) VS3_0.junk (kernelRun3_C c i arg3 harg3 arg4 harg4 arg5 harg5 arg6 harg6 arg7 harg7 arg8 harg8 arg9 harg9 arg10 harg10 hc0 hc1 x0 x1 x2 x3 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before3_W_κ`). An assignment of the conditions no point meets is no case (`False.elim`). -/
def outsAt3 (c : Dev nD) : (n : ℕ) → n < cfg3.N → Vec F S2048x2048 .bf16 × Vec F S2048x2048 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk V c 0 ⟨0, hn⟩) (iblk V c 1 ⟨0, hn⟩) (iblk V c 2 ⟨0, hn⟩) (iblk V c 3 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 16 = 0 then
      if h1 : (n + 1) % 16 = 15 then
        False.elim (by have hN : n + 1 < 192 := lt_of_lt_of_eq hn (show cfg3.N = 192 from N_3); omega)
      else
        (out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk V c 0 ⟨n + 1, hn⟩) (iblk V c 1 ⟨n + 1, hn⟩) (iblk V c 2 ⟨n + 1, hn⟩) (iblk V c 3 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 16 = 15 then
        (out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt3 c n (Nat.lt_of_succ_lt hn)).2)
      else
        (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk V c 0 ⟨n + 1, hn⟩) (iblk V c 1 ⟨n + 1, hn⟩) (iblk V c 2 ⟨n + 1, hn⟩) (iblk V c 3 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk V c 0 ⟨n + 1, hn⟩) (iblk V c 1 ⟨n + 1, hn⟩) (iblk V c 2 ⟨n + 1, hn⟩) (iblk V c 3 ⟨n + 1, hn⟩) (outsAt3 c n (Nat.lt_of_succ_lt hn)).2)

/-- `outsAt3` at a point of case A: that case's contents. -/
theorem outsAt3_A (c : Dev nD) (t : Fin cfg3.N) (h0 : t.val % 16 = 0) (h1 : ¬t.val % 16 = 15) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => h1 ((hcond3_1 t).mp h)) (iblk V c 0 t) (iblk V c 1 t) (iblk V c 2 t) (iblk V c 3 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => h1 ((hcond3_1 t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 16 = 0) (h1 : ¬t.val % 16 = 15) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) (fun h => h1 ((hcond3_1 t).mp h)) (iblk V c 0 t) (iblk V c 1 t) (iblk V c 2 t) (iblk V c 3 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) (fun h => h1 ((hcond3_1 t).mp h)) (iblk V c 0 t) (iblk V c 1 t) (iblk V c 2 t) (iblk V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 16 = 0) (h1 : t.val % 16 = 15) :
    outsAt3 V c t.val t.isLt = (out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr h1) (iblk V c 0 t) (iblk V c 1 t) (iblk V c 2 t) (iblk V c 3 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr h1) (iblk V c 0 t) (iblk V c 1 t) (iblk V c 2 t) (iblk V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt3`'s scratch components), the others at anything, and the generator register
    at some state. -/
def PhiS (c : Dev nD) : (n : ℕ) → n ≤ cfg3.N → sProp 𝕄
  | 0, _ => Pipeline.ΦA spec3 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ owns (c : Thread nD τ) scM3_0 fullShare ((outsAt3 V c n hn).2) ∗ (∃ d, owns (c : Thread nD τ) scM3_1 fullShare d) ∗ (∃ d, owns (c : Thread nD τ) scM3_2 fullShare d) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f)) ∗ (∃ r, prngReg c r))

theorem PhiS_zero (c : Dev nD) (n : ℕ) (h : n ≤ cfg3.N) (hz : n = 0) : PhiS V c n h = Pipeline.ΦA spec3 c := by
  subst hz; rfl

/-- After point `n` (before point `n + 1`): the carried scratch at that point's contents. -/
theorem PhiS_succ (c : Dev nD) (n : ℕ) (hn : n < cfg3.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ owns (c : Thread nD τ) scM3_0 fullShare ((outsAt3 V c n hn).2) ∗ (∃ d, owns (c : Thread nD τ) scM3_1 fullShare d) ∗ (∃ d, owns (c : Thread nD τ) scM3_2 fullShare d) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f)) ∗ (∃ r, prngReg c r)) := rfl

/-- Before a point that is not the first: the carried scratch at what the point before left. -/
theorem PhiS_pos (c : Dev nD) (n : ℕ) (h : n ≤ cfg3.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ owns (c : Thread nD τ) scM3_0 fullShare ((outsAt3 V c (n - 1) (by omega)).2) ∗ (∃ d, owns (c : Thread nD τ) scM3_1 fullShare d) ∗ (∃ d, owns (c : Thread nD τ) scM3_2 fullShare d) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt3`; the invariant the class's
    (`PhiS`: the class's `ΦA` before the first point, then the scoped rest with the carried scratch at `outsAt3`'s component);
    nothing owed; full shares. -/
def dats (_ : Fin 4) (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt3 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg3.W) : (dats V 3 c).A w = V c (Pipeline.arrRef spec3 w) := by
  dsimp only [dats]

/-- The invariant at a point's start (the proof data at `t.castSucc`), restated at `t.val`. -/
theorem PhiS_castSucc (c : Dev nD) (t : Fin cfg3.N) :
    (dats V 3 c).Φ t.castSucc = PhiS V c t.val (Nat.le_of_lt t.isLt) := by
  dsimp only [dats]; exact Pipeline.Dat.Φ_castSucc (PhiS V c) t

/-- What the body leaves, window by window (the proof data's `match` reduced by `dsimp`). -/
theorem after3_0 (c : Dev nD) (t : Fin cfg3.N) : (dats V 3 c).after 0 t = iblk V c 0 t := by dsimp only [dats]
theorem after3_1 (c : Dev nD) (t : Fin cfg3.N) : (dats V 3 c).after 1 t = iblk V c 1 t := by dsimp only [dats]
theorem after3_2 (c : Dev nD) (t : Fin cfg3.N) : (dats V 3 c).after 2 t = iblk V c 2 t := by dsimp only [dats]
theorem after3_3 (c : Dev nD) (t : Fin cfg3.N) : (dats V 3 c).after 3 t = iblk V c 3 t := by dsimp only [dats]
theorem after3_4 (c : Dev nD) (t : Fin cfg3.N) : (dats V 3 c).after 4 t = (outsAt3 V c t.val t.isLt).1 := by dsimp only [dats]

/-- Each input's current staging buffer holds its block at every point, fetched there or not (`beforeK_W_of`). -/
theorem before3_0 (c : Dev nD) (t : Fin cfg3.N) (d) : (dats V 3 c).before 0 t d = iblk V c 0 t :=
  before3_0_of V (dats V 3 c) (A_eq V c 0) (after3_0 V c) t d
theorem before3_1 (c : Dev nD) (t : Fin cfg3.N) (d) : (dats V 3 c).before 1 t d = iblk V c 1 t :=
  before3_1_of V (dats V 3 c) (A_eq V c 1) (after3_1 V c) t d
theorem before3_2 (c : Dev nD) (t : Fin cfg3.N) (d) : (dats V 3 c).before 2 t d = iblk V c 2 t :=
  before3_2_of V (dats V 3 c) (A_eq V c 2) (after3_2 V c) t d
theorem before3_3 (c : Dev nD) (t : Fin cfg3.N) (d) : (dats V 3 c).before 3 t d = iblk V c 3 t :=
  before3_3_of V (dats V 3 c) (A_eq V c 3) (after3_3 V c) t d

/-! ## The body obligation, at a generic point -/

/-- What the body is called with at point `t` (Lib/Pipeline.lean `BodyObligation`'s precondition, the windows one by one), -/
def bodyPre (c : Dev nD) (t : Fin cfg3.N) : sProp 𝕄 :=
  iprop((dats V 3 c).Φ t.castSucc ∗ (dats V 3 c).owesAt () t.castSucc
    ∗ (∃ d, owns (c : Thread nD τ) (ms3_0 t) fullShare ((dats V 3 c).before 0 t d))
    ∗ (∃ d, owns (c : Thread nD τ) (ms3_1 t) fullShare ((dats V 3 c).before 1 t d))
    ∗ (∃ d, owns (c : Thread nD τ) (ms3_2 t) fullShare ((dats V 3 c).before 2 t d))
    ∗ (∃ d, owns (c : Thread nD τ) (ms3_3 t) fullShare ((dats V 3 c).before 3 t d))
    ∗ (∃ d, owns (c : Thread nD τ) (ms3_4 t) fullShare ((dats V 3 c).before 4 t d)))

/-- and what it returns. -/
def bodyPost (c : Dev nD) (t : Fin cfg3.N) : sProp 𝕄 :=
  iprop((dats V 3 c).Φ t.succ ∗ (dats V 3 c).owesAt () t.succ
    ∗ (dats V 3 c).leavesExact 0 t
    ∗ (dats V 3 c).leavesExact 1 t
    ∗ (dats V 3 c).leavesExact 2 t
    ∗ (dats V 3 c).leavesExact 3 t
    ∗ (dats V 3 c).leavesExact 4 t)

set_option maxHeartbeats 9600000 in
/-- The body at any point: the inputs' memrefs hold their blocks (`before3_W`); the closed forms say which case the point is in (`by_cases`), an output the case reads before covering holds what the point before left (`before3_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before3_0, before3_1, before3_2, before3_3]
  rw [show (dats V 3 c).owesAt () t.succ = (dats V 3 c).owesAt () t.castSucc from rfl]
  rw [show (dats V 3 c).Φ t.succ = PhiS V c (t.val + 1) t.isLt from rfl, PhiS_succ]
  have hN : t.val < 192 := lt_of_lt_of_eq t.isLt (show cfg3.N = 192 from N_3)
  by_cases h0 : t.val % 16 = 0
  · by_cases h1 : t.val % 16 = 15
    · exfalso; omega
    · rw [show (dats V 3 c).leavesExact 0 t = owns (c : Thread nD τ) (ms3_0 t) fullShare ((dats V 3 c).after 0 t) from by
      unfold Dat.leavesExact; rw [liveAt3_0 t], after3_0]
      rw [show (dats V 3 c).leavesExact 1 t = owns (c : Thread nD τ) (ms3_1 t) fullShare ((dats V 3 c).after 1 t) from by
      unfold Dat.leavesExact; rw [liveAt3_1 t], after3_1]
      rw [show (dats V 3 c).leavesExact 2 t = owns (c : Thread nD τ) (ms3_2 t) fullShare ((dats V 3 c).after 2 t) from by
      unfold Dat.leavesExact; rw [liveAt3_2 t], after3_2]
      rw [show (dats V 3 c).leavesExact 3 t = owns (c : Thread nD τ) (ms3_3 t) fullShare ((dats V 3 c).after 3 t) from by
      unfold Dat.leavesExact; rw [liveAt3_3 t], after3_3]
      rw [Dat.leavesExact_idle (dats V 3 c) 4 t (idleAt3_4_A t ((hcond3_0 t).mpr h0) (fun h => h1 ((hcond3_1 t).mp h))) (noFlush3_4_A t ((hcond3_0 t).mpr h0) (fun h => h1 ((hcond3_1 t).mp h)))]
      by_cases hz : t.val = 0
      · rw [PhiS_castSucc V c t, PhiS_zero V c _ _ hz, PhiA3_eq]
        rw [outsAt3_A V c t h0 h1]
        unfold sout3_A_0; (try dsimp only)
        iintro ⟨⟨⟨HR0, HR1, HR2, HR3, HR4, HR5, HR6, HR7, HR8, HR9, HR10, HR11, HR12, HR13, HR14, HS0, HS1, HS2, HR18, HR19⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ _ _ _ _ ((hcond3_0 t).mpr h0) (fun h => h1 ((hcond3_1 t).mp h)) (iblk V c 0 t) (iblk V c 1 t) (iblk V c 2 t) (iblk V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%fT1, HS1⟩, ⟨%fT2, HS2⟩⟩
        isplitl [HR0 HR1 HR2 HR3 HR4 HR5 HR6 HR7 HR8 HR9 HR10 HR11 HR12 HR13 HR14 HS0 HS1 HS2 HR18 HR19 Hg]
        · isplitl [HR0 HR1 HR2 HR3 HR4 HR5 HR6 HR7 HR8 HR9 HR10 HR11 HR12 HR13 HR14 HS0 HS1 HS2 HR18 HR19]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            isplitl [HR18]
            · iexact HR18
            iexact HR19
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        rw [outsAt3_A V c t h0 h1]
        unfold sout3_A_0; (try dsimp only)
        iintro ⟨⟨⟨HR0, HR1, HR2, HR3, HR4, HR5, HR6, HR7, HR8, HR9, HR10, HR11, HR12, HR13, HR14, HS0, HS1, HS2, HR18, HR19⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ _ _ _ _ ((hcond3_0 t).mpr h0) (fun h => h1 ((hcond3_1 t).mp h)) (iblk V c 0 t) (iblk V c 1 t) (iblk V c 2 t) (iblk V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexact HS1
        isplitl [HS2]; · iexact HS2
        iintro ⟨H0, H1, H2, H3, H4, ⟨%es0, HS0⟩, ⟨%fT1, HS1⟩, ⟨%fT2, HS2⟩⟩
        isplitl [HR0 HR1 HR2 HR3 HR4 HR5 HR6 HR7 HR8 HR9 HR10 HR11 HR12 HR13 HR14 HS0 HS1 HS2 HR18 HR19 Hg]
        · isplitl [HR0 HR1 HR2 HR3 HR4 HR5 HR6 HR7 HR8 HR9 HR10 HR11 HR12 HR13 HR14 HS0 HS1 HS2 HR18 HR19]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            isplitl [HR18]
            · iexact HR18
            iexact HR19
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dats V 3 c).leavesExact 0 t = owns (c : Thread nD τ) (ms3_0 t) fullShare ((dats V 3 c).after 0 t) from by
      unfold Dat.leavesExact; rw [liveAt3_0 t], after3_0]
      rw [show (dats V 3 c).leavesExact 1 t = owns (c : Thread nD τ) (ms3_1 t) fullShare ((dats V 3 c).after 1 t) from by
      unfold Dat.leavesExact; rw [liveAt3_1 t], after3_1]
      rw [show (dats V 3 c).leavesExact 2 t = owns (c : Thread nD τ) (ms3_2 t) fullShare ((dats V 3 c).after 2 t) from by
      unfold Dat.leavesExact; rw [liveAt3_2 t], after3_2]
      rw [show (dats V 3 c).leavesExact 3 t = owns (c : Thread nD τ) (ms3_3 t) fullShare ((dats V 3 c).after 3 t) from by
      unfold Dat.leavesExact; rw [liveAt3_3 t], after3_3]
      rw [show (dats V 3 c).leavesExact 4 t = owns (c : Thread nD τ) (ms3_4 t) fullShare ((dats V 3 c).after 4 t) from by
      unfold Dat.leavesExact; rw [liveAt3_4_C t (fun h => h0 ((hcond3_0 t).mp h)) ((hcond3_1 t).mpr h1)], after3_4]
      by_cases hz : t.val = 0
      · exfalso; have hN : t.val < 192 := lt_of_lt_of_eq t.isLt (show cfg3.N = 192 from N_3); omega
      · rw [PhiS_castSucc V c t, PhiS_pos V c _ _ hz]
        rw [outsAt3_C V c t h0 h1]
        unfold out3_C_4 sout3_C_0; (try dsimp only)
        iintro ⟨⟨⟨HR0, HR1, HR2, HR3, HR4, HR5, HR6, HR7, HR8, HR9, HR10, HR11, HR12, HR13, HR14, HS0, HS1, HS2, HR18, HR19⟩, Hg⟩, Ho, ⟨%d0, H0⟩, ⟨%d1, H1⟩, ⟨%d2, H2⟩, ⟨%d3, H3⟩, ⟨%d4, H4⟩⟩
        iapply ((kernelRun3_C c (grid3.coords t) _ _ _ _ _ _ _ _ _ _ _ _ _ _ _ _ (fun h => h0 ((hcond3_0 t).mp h)) ((hcond3_1 t).mpr h1) (iblk V c 0 t) (iblk V c 1 t) (iblk V c 2 t) (iblk V c 3 t) _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%fT1, HS1⟩, ⟨%fT2, HS2⟩⟩
        isplitl [HR0 HR1 HR2 HR3 HR4 HR5 HR6 HR7 HR8 HR9 HR10 HR11 HR12 HR13 HR14 HS0 HS1 HS2 HR18 HR19 Hg]
        · isplitl [HR0 HR1 HR2 HR3 HR4 HR5 HR6 HR7 HR8 HR9 HR10 HR11 HR12 HR13 HR14 HS0 HS1 HS2 HR18 HR19]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            isplitl [HR18]
            · iexact HR18
            iexact HR19
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover3_C_4 c _ _ _ _ _ _ _ _ _ _ _ _ _ _ _ _ _ _ _ _ _ _ _ _)
    · rw [show (dats V 3 c).leavesExact 0 t = owns (c : Thread nD τ) (ms3_0 t) fullShare ((dats V 3 c).after 0 t) from by
      unfold Dat.leavesExact; rw [liveAt3_0 t], after3_0]
      rw [show (dats V 3 c).leavesExact 1 t = owns (c : Thread nD τ) (ms3_1 t) fullShare ((dats V 3 c).after 1 t) from by
      unfold Dat.leavesExact; rw [liveAt3_1 t], after3_1]
      rw [show (dats V 3 c).leavesExact 2 t = owns (c : Thread nD τ) (ms3_2 t) fullShare ((dats V 3 c).after 2 t) from by
      unfold Dat.leavesExact; rw [liveAt3_2 t], after3_2]
      rw [show (dats V 3 c).leavesExact 3 t = owns (c : Thread nD τ) (ms3_3 t) fullShare ((dats V 3 c).after 3 t) from by
      unfold Dat.leavesExact; rw [liveAt3_3 t], after3_3]
      rw [Dat.leavesExact_idle (dats V 3 c) 4 t (idleAt3_4_B t (fun h => h0 ((hcond3_0 t).mp h)) (fun h => h1 ((hcond3_1 t).mp h))) (noFlush3_4_B t (fun h => h0 ((hcond3_0 t).mp h)) (fun h => h1 ((hcond3_1 t).mp h)))]
      by_cases hz : t.val = 0
      · exfalso; have hN : t.val < 192 := lt_of_lt_of_eq t.isLt (show cfg3.N = 192 from N_3); omega
      · rw [PhiS_castSucc V c t, PhiS_pos V c _ _ hz]
        rw [outsAt3_B V c t h0 h1]
        unfold sout3_B_0; (try dsimp only)
        iintro ⟨⟨⟨HR0, HR1, HR2, HR3, HR4, HR5, HR6, HR7, HR8, HR9, HR10, HR11, HR12, HR13, HR14, HS0, HS1, HS2, HR18, HR19⟩, Hg⟩, Ho, ⟨%d0, H0⟩, ⟨%d1, H1⟩, ⟨%d2, H2⟩, ⟨%d3, H3⟩, ⟨%d4, H4⟩⟩
        iapply ((kernelRun3_B c (grid3.coords t) _ _ _ _ _ _ _ _ _ _ _ _ _ _ _ _ (fun h => h0 ((hcond3_0 t).mp h)) (fun h => h1 ((hcond3_1 t).mp h)) (iblk V c 0 t) (iblk V c 1 t) (iblk V c 2 t) (iblk V c 3 t) _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%fT1, HS1⟩, ⟨%fT2, HS2⟩⟩
        isplitl [HR0 HR1 HR2 HR3 HR4 HR5 HR6 HR7 HR8 HR9 HR10 HR11 HR12 HR13 HR14 HS0 HS1 HS2 HR18 HR19 Hg]
        · isplitl [HR0 HR1 HR2 HR3 HR4 HR5 HR6 HR7 HR8 HR9 HR10 HR11 HR12 HR13 HR14 HS0 HS1 HS2 HR18 HR19]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            isplitl [HR18]
            · iexact HR18
            iexact HR19
          iexact Hg
        isplitl [Ho]; · iexact Ho
        isplitl [H0]; · iexact H0
        isplitl [H1]; · iexact H1
        isplitl [H2]; · iexact H2
        isplitl [H3]; · iexact H3
        iexists _; iexact H4

/-- The body table's row at point `t`'s slots is the body as `bodyAt3` spells it. -/
theorem defs₀_row (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation (c : Dev nD) : BodyObligation (dats (F := F) V 3 c) (defs₀ (F := F)) Variants.none () Set.univ := fun t => by
  rw [bigSep_W3, bigSep_W3, defs₀_row]
  exact triple_restated (sound_body V c t) rfl .rfl fun _ => .rfl

/-- What the launch hands the region (`ΦA`) is the invariant before the first point. -/
theorem hin (c : Dev nD) : Pipeline.ΦA spec3 c ⊢ (dats V 3 c).Φ 0 := by
  rw [show (dats V 3 c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg3.N + 1)) (ht : t.val ≠ 0) : (dats V 3 c).Φ t ⊢ Pipeline.ΦA spec3 c := by
  rw [show (dats V 3 c).Φ t = PhiS V c t.val (Nat.le_of_lt_succ t.isLt) from rfl, PhiS_pos V c _ _ ht, PhiA3_eq]
  iintro ⟨⟨HR0, HR1, HR2, HR3, HR4, HR5, HR6, HR7, HR8, HR9, HR10, HR11, HR12, HR13, HR14, HS0, HS1, HS2, HR18, HR19⟩, Hg⟩
  isplitl [HR0 HR1 HR2 HR3 HR4 HR5 HR6 HR7 HR8 HR9 HR10 HR11 HR12 HR13 HR14 HS0 HS1 HS2 HR18 HR19]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HS0]
    · iexists _; iexact HS0
    isplitl [HS1]
    · iexact HS1
    isplitl [HS2]
    · iexact HS2
    isplitl [HR18]
    · iexact HR18
    iexact HR19
  iexact Hg

/-- The same after the last point. -/
theorem hout (c : Dev nD) : (dats V 3 c).Φ (Fin.last cfg3.N) ⊢ Pipeline.ΦA spec3 c :=
  Phi_out V c _ (by rw [Fin.val_last]; have : cfg3.N = 192 := N_3; omega)

end Cert.KernelIdeal.Matmul

end
-- ==== Proof.WholeRun.lean ====
/-
  The whole program's run: the four regions and the host's reshapes in @main's order, each entered from the buffers' contents that the
  items before it leave (`W0` to `W6`). Every weakly fair execution terminates with every buffer at `W6` and every counter at zero.
-/
module

public import proofs.«01_k».proof.Proof.GammaRegion
public import proofs.«01_k».proof.Proof.TernRegion
public import proofs.«01_k».proof.Proof.QuantRegion
public import proofs.«01_k».proof.Proof.MatmulRegion
public import Idealize.ShloMosaic.Lib.Pipeline.RegionArraysS
public import Idealize.ShloMosaic.Lib.Pipeline.Regions

@[expose] public section

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- A valuation of each core's buffers, read at the TensorCore's references. -/
abbrev at' (W : Dev nD → Valuation τ sig (Elt F)) (c : Dev nD) (b : Ref sig .tc) : Buf (Elt F) ((c : Thread nD τ).loc b) := W c b

/-- The launch contents. -/
def W0 (c : Dev nD) : Valuation τ sig (Elt F) := fun b => m (c, b)
/-- After region 0. -/
def W1 (c : Dev nD) : Valuation τ sig (Elt F) := Pipeline.afterRegion (Gamma.dats (at' (W0 m)) 0 c) (W0 m c)
/-- After region 1. -/
def W2 (c : Dev nD) : Valuation τ sig (Elt F) := Pipeline.afterRegion (Tern.dats (at' (W1 m)) 1 c) (W1 m c)
/-- After the reshape of the activations. -/
def W3 (c : Dev nD) : Valuation τ sig (Elt F) := StableHlo.after hostOps2 (W2 m c)
/-- After region 2. -/
def W4 (c : Dev nD) : Valuation τ sig (Elt F) := Pipeline.afterRegion (Quant.dats (at' (W3 m)) 2 c) (W3 m c)
/-- After region 3. -/
def W5 (c : Dev nD) : Valuation τ sig (Elt F) := Pipeline.afterRegion (Matmul.dats (at' (W4 m)) 3 c) (W4 m c)
/-- At the return. -/
def W6 (c : Dev nD) : Valuation τ sig (Elt F) := StableHlo.after hostOps4 (W5 m c)

theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v2]
theorem hostOps2_writes : (hostOps2 : List (HloOp τ sig (Elt F))).Forall fun op => op.writes ⊆ (hostOps2_W.map (Proc.devRef (τ := τ) .tc)).toFinset :=
  StableHlo.forall_writes_sub_of_map rfl
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v5, main_v6, main_v7, main_v8]
theorem hostOps4_writes : (hostOps4 : List (HloOp τ sig (Elt F))).Forall fun op => op.writes ⊆ (hostOps4_W.map (Proc.devRef (τ := τ) .tc)).toFinset :=
  StableHlo.forall_writes_sub_of_map rfl

/-! ## What each item leaves unchanged -/

theorem W1_of (c : Dev nD) (r : Ref sig .tc) (h : ∀ w, Pipeline.arrRef spec0 w = r → (cfg0.win w).isOut = false) : W1 m c r = W0 m c r :=
  Pipeline.afterRegion_keeps (Gamma.dats (at' (W0 m)) 0 c) _ launch0.win.arr_inj (fun _ => rfl) r h
theorem W2_of (c : Dev nD) (r : Ref sig .tc) (h : ∀ w, Pipeline.arrRef spec1 w = r → (cfg1.win w).isOut = false) : W2 m c r = W1 m c r :=
  Pipeline.afterRegion_keeps (Tern.dats (at' (W1 m)) 1 c) _ launch1.win.arr_inj (fun _ => rfl) r h
theorem W3_of (c : Dev nD) (r : Ref sig .tc) (h : r ∉ hostOps2_W) : W3 m c r = W2 m c r :=
  StableHlo.after_of_writes_sub hostOps2 _ hostOps2_writes h
theorem W4_of (c : Dev nD) (r : Ref sig .tc) (h : ∀ w, Pipeline.arrRef spec2 w = r → (cfg2.win w).isOut = false) : W4 m c r = W3 m c r :=
  Pipeline.afterRegion_keeps (Quant.dats (at' (W3 m)) 2 c) _ launch2.win.arr_inj (fun _ => rfl) r h
theorem W5_of (c : Dev nD) (r : Ref sig .tc) (h : ∀ w, Pipeline.arrRef spec3 w = r → (cfg3.win w).isOut = false) : W5 m c r = W4 m c r :=
  Pipeline.afterRegion_keeps (Matmul.dats (at' (W4 m)) 3 c) _ launch3.win.arr_inj (fun _ => rfl) r h
theorem W6_of (c : Dev nD) (r : Ref sig .tc) (h : r ∉ hostOps4_W) : W6 m c r = W5 m c r :=
  StableHlo.after_of_writes_sub hostOps4 _ hostOps4_writes h

/-- The activations reach the end as launched. -/
theorem W6_main_arg0 (c : Dev nD) : W6 m c main_arg0 = m ((c : Thread nD τ).loc main_arg0) :=
  (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans rfl
/-- The weights reach the end as launched. -/
theorem W6_main_arg1 (c : Dev nD) : W6 m c main_arg1 = m ((c : Thread nD τ).loc main_arg1) :=
  (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans rfl

/-! ## The items as segments -/

/-- Every TensorCore cell's waits are at one level. -/
abbrev L : GSem nD τ sig → Finset Unit := fun g => if g.1.2 = .tc then {()} else ∅
abbrev lv : GSem nD τ sig → Unit → ℕ := fun _ _ => 0
/-- No pallas_call has a prefetched table. -/
abbrev adm : (p : Fin 4) → (pcfgs (F := F) p).Adm := fun p => (cfgs p).toPCfg_adm

/-- The four pipelines' proof data. -/
def pdats : (p : Fin 4) → (c : Dev nD) → Dat τ (Elt F) Unit ℕ (UR sig nD τ) ℕ (Pipeline.pin (pcfgs (F := F)) adm p) c
  | ⟨0, _⟩ => fun c => Gamma.dats (at' (W0 m)) 0 c
  | ⟨1, _⟩ => fun c => Tern.dats (at' (W1 m)) 1 c
  | ⟨2, _⟩ => fun c => Quant.dats (at' (W3 m)) 2 c
  | ⟨3, _⟩ => fun c => Matmul.dats (at' (W4 m)) 3 c

/-- What a region takes into its invariant and gives back: the generator register at some state. -/
abbrev X (c : Dev nD) : sProp 𝕄 := iprop(∃ r, prngReg c r)
/-- What rides beside the buffers: the core owes nothing, the generator register at some state. -/
abbrev E (c : Dev nD) : sProp 𝕄 := iprop((∃ Wd, owes (c : Thread nD τ) (0 : CellTallies nD τ sig Unit) Wd) ∗ X c ∗ emp)

theorem cut (p : Fin 4) : Pipeline.LevelCut (pcfgs (F := F)) adm () L lv p (fun _ => 0) (fun _ => 0) where
  hι _ _ _ := Finset.mem_singleton_self _
  hιb _ _ _ := le_rfl
  hD _ _ _ h := absurd h (Nat.lt_irrefl 0)

set_option backward.isDefEq.respectTransparency.types false in
/-- Region 0 as a segment over every unscoped buffer. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig) X X launch0.toP rfl
    (fun c => (Gamma.body_obligation (at' (W0 m)) c).loose) (fun _ _ => rfl) (fun _ => rfl)
    (fun c => (Gamma.dats (at' (W0 m)) 0 c).share_full fun _ => rfl)
    (fun c => Gamma.hin (at' (W0 m)) c) (fun c => Gamma.hout (at' (W0 m)) c) (fun _ => 0) (cut 0) (fun _ => iprop(emp)) (W0 m) (fun _ _ => rfl)
set_option backward.isDefEq.respectTransparency.types false in
theorem hpre0 (c : Dev nD) : iprop(StableHlo.held (c : Thread nD τ) (Pipeline.ucRefs τ sig) (W0 m c) ∗ E c) ⊢ (reg0 m).pre c :=
  have h : _ ⊢ (reg0 m).pre c := RegionSeg.ofHeldIn_pre (Pipeline.arrRefs_sub_ucRefs _ launch0.win.arr_unscoped) c
  h
set_option backward.isDefEq.respectTransparency.types false in
theorem hpost0 (c : Dev nD) : (reg0 m).post c ⊢ iprop(StableHlo.held (c : Thread nD τ) (Pipeline.ucRefs τ sig) (W1 m c) ∗ E c) :=
  RegionSeg.ofHeldIn_post (Pipeline.arrRefs_sub_ucRefs _ launch0.win.arr_unscoped) c

set_option backward.isDefEq.respectTransparency.types false in
/-- Region 1 as a segment over every unscoped buffer. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig) X X launch1.toP rfl
    (fun c => (Tern.body_obligation (at' (W1 m)) c).loose) (fun _ _ => rfl) (fun _ => rfl)
    (fun c => (Tern.dats (at' (W1 m)) 1 c).share_full fun _ => rfl)
    (fun c => .rfl) (fun c => .rfl) (fun _ => 0) (cut 1) (fun _ => iprop(emp)) (W1 m) (fun _ _ => rfl)
set_option backward.isDefEq.respectTransparency.types false in
theorem hpre1 (c : Dev nD) : iprop(StableHlo.held (c : Thread nD τ) (Pipeline.ucRefs τ sig) (W1 m c) ∗ E c) ⊢ (reg1 m).pre c :=
  have h : _ ⊢ (reg1 m).pre c := RegionSeg.ofHeldIn_pre (Pipeline.arrRefs_sub_ucRefs _ launch1.win.arr_unscoped) c
  h
set_option backward.isDefEq.respectTransparency.types false in
theorem hpost1 (c : Dev nD) : (reg1 m).post c ⊢ iprop(StableHlo.held (c : Thread nD τ) (Pipeline.ucRefs τ sig) (W2 m c) ∗ E c) :=
  RegionSeg.ofHeldIn_post (Pipeline.arrRefs_sub_ucRefs _ launch1.win.arr_unscoped) c

set_option backward.isDefEq.respectTransparency.types false in
/-- Region 2 as a segment over every unscoped buffer. -/
def reg2 : RegionSeg (pcfgs (F := F)) adm (pdats m) () defs₀ Variants.none L lv 2 :=
  RegionSeg.ofHeldIn (pcfgs (F := F)) adm (pdats m) () defs₀ Variants.none L lv 2 (fun _ => 0) (Pipeline.ucRefs τ sig) X X launch2.toP rfl
    (fun c => (Quant.body_obligation (at' (W3 m)) c).loose) (fun _ _ => rfl) (fun _ => rfl)
    (fun c => (Quant.dats (at' (W3 m)) 2 c).share_full fun _ => rfl)
    (fun c => .rfl) (fun c => .rfl) (fun _ => 0) (cut 2) (fun _ => iprop(emp)) (W3 m) (fun _ _ => rfl)
set_option backward.isDefEq.respectTransparency.types false in
theorem hpre2 (c : Dev nD) : iprop(StableHlo.held (c : Thread nD τ) (Pipeline.ucRefs τ sig) (W3 m c) ∗ E c) ⊢ (reg2 m).pre c :=
  have h : _ ⊢ (reg2 m).pre c := RegionSeg.ofHeldIn_pre (Pipeline.arrRefs_sub_ucRefs _ launch2.win.arr_unscoped) c
  h
set_option backward.isDefEq.respectTransparency.types false in
theorem hpost2 (c : Dev nD) : (reg2 m).post c ⊢ iprop(StableHlo.held (c : Thread nD τ) (Pipeline.ucRefs τ sig) (W4 m c) ∗ E c) :=
  RegionSeg.ofHeldIn_post (Pipeline.arrRefs_sub_ucRefs _ launch2.win.arr_unscoped) c

set_option backward.isDefEq.respectTransparency.types false in
/-- Region 3 as a segment over every unscoped buffer. -/
def reg3 : RegionSeg (pcfgs (F := F)) adm (pdats m) () defs₀ Variants.none L lv 3 :=
  RegionSeg.ofHeldIn (pcfgs (F := F)) adm (pdats m) () defs₀ Variants.none L lv 3 (fun _ => 0) (Pipeline.ucRefs τ sig) X X launch3.toP rfl
    (fun c => (Matmul.body_obligation (at' (W4 m)) c).loose) (fun _ _ => rfl) (fun _ => rfl)
    (fun c => (Matmul.dats (at' (W4 m)) 3 c).share_full fun _ => rfl)
    (fun c => Matmul.hin (at' (W4 m)) c) (fun c => Matmul.hout (at' (W4 m)) c) (fun _ => 0) (cut 3) (fun _ => iprop(emp)) (W4 m) (fun _ _ => rfl)
set_option backward.isDefEq.respectTransparency.types false in
theorem hpre3 (c : Dev nD) : iprop(StableHlo.held (c : Thread nD τ) (Pipeline.ucRefs τ sig) (W4 m c) ∗ E c) ⊢ (reg3 m).pre c :=
  have h : _ ⊢ (reg3 m).pre c := RegionSeg.ofHeldIn_pre (Pipeline.arrRefs_sub_ucRefs _ launch3.win.arr_unscoped) c
  h
set_option backward.isDefEq.respectTransparency.types false in
theorem hpost3 (c : Dev nD) : (reg3 m).post c ⊢ iprop(StableHlo.held (c : Thread nD τ) (Pipeline.ucRefs τ sig) (W5 m c) ∗ E c) :=
  RegionSeg.ofHeldIn_post (Pipeline.arrRefs_sub_ucRefs _ launch3.win.arr_unscoped) c

/-- The reshape of the activations. -/
def seg2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) E
/-- The reshapes of the results. -/
def seg5 : HostSeg (Ix := Unit) (Name := ℕ) (U := UR sig nD τ) (Lvl := ℕ) (pcfgs (F := F)) defs₀ Variants.none L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (W5 m) E

/-- @main's items in order. -/
abbrev segs (_ : Dev nD) : List (Seg (pcfgs (F := F)) adm (pdats m) () defs₀ Variants.none L lv) :=
  [.region (reg0 m), .region (reg1 m), .host (seg2 m), .region (reg2 m), .region (reg3 m), .host (seg5 m)]

/-! ## The run -/

theorem no_unscoped : ∀ sm : SemLoc sig, sm.isScoped .tc = true := by decide

abbrev held' (W : Dev nD → Valuation τ sig (Elt F)) (c : Dev nD) : sProp 𝕄 := StableHlo.held (c : Thread nD τ) (Pipeline.ucRefs τ sig) (W c)

set_option backward.isDefEq.respectTransparency.types false in
/-- Every weakly fair execution of @main from memory `m` with zero counters terminates; every final state has every unscoped buffer of
    the TensorCore at `W6` and every semaphore counter at zero. -/
theorem run : θ_run defs (onTc (τ := τ) (main (F := F))) ⟨m, fun _ => 0, ρ⟩ (fun r =>
      (∀ c : Dev nD, ∀ b : Ref sig .tc, b.isScoped = false → r.2.mem ((c.tc : Thread nD τ).loc b) = W6 m c b) ∧ r.2.sem = fun _ => 0) := by
  refine Pipeline.θ_run_regions_kit_dev_sems (pcfgs (F := F)) adm (pdats m) () cellOf_inj emb₁ defs₀ Variants.none L lv m ρ main
    (segs m)
    (fun c Q => by
      rewrite [main_chain c, Seg.run_eq_chain,
        show (segs m c).map Seg.prog = [
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4 ] from rfl]
      dsimp (config := { failIfUnchanged := false }) only
      exact .rfl)
    (fun c => by simp only [segs, Seg.pipes_host, Seg.pipes_region, Seg.pipes_nil]; decide)
    (O₀ := 0) (hL := fun g h => if_neg h) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(held' (W0 m) c ∗ E c))
    (Tₙ := fun c => held' (W6 m) c)
    (hch := fun c => ⟨hpre0 m c, (hpost0 m c).trans (hpre1 m c), hpost1 m c, hpre2 m c, (hpost2 m c).trans (hpre3 m c), hpost3 m c,
      sep_mono .rfl (by iintro ⟨HO, -, -⟩; iexact HO)⟩)
    (hinit := ?_) (QY := fun c s => ∀ b : Ref sig .tc, b.isScoped = false → s.mem ((c.tc : Thread nD τ).loc b) = W6 m c b)
    (hfin := fun c s' => ?_) (hQ := fun _ h hz => ⟨h, funext fun g => hz g (.inr (no_unscoped g.2))⟩)
  · refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold held' StableHlo.held
    iintro ⟨Hh, HSI⟩
    ihave Hr := (pointsTo_read_all (Pipeline.ucRefs τ sig) (fun b => ((c : Thread nD τ).1, b)) (W6 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun h' => Bool.false_ne_true (hb.symm.trans h')⟩)
    · iexact HSI

/-- The frame: the arguments end as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c main_arg0 (by decide)).trans (W6_main_arg0 m c),
    (h.1 c main_arg1 (by decide)).trans (W6_main_arg1 m c)⟩, h.2⟩) (run m ρ)

end Cert.KernelIdeal.Whole

end
-- ==== Proof.Transfer.lean ====
/-
  The kernel's own program over bit-exact floats is the idealized program's text read at the same floats, so its run is that program's run.
-/
module

public import proofs.«01_k».proof.Proof.WholeRun
public import proofs.«01_k».proof.Defs
public import proofs.«01_k».proof.Proof.Gen.Kernel

@[expose] public section

set_option maxHeartbeats 4000000
set_option maxRecDepth 20000

namespace Cert.Transfer

open Idealize.ShloMosaic Idealize.SL.Sem

theorem gamma_eq : Cert.Kernel.cc0_gamma (F := Bits) = Cert.KernelIdeal.cc0_gamma (F := Bits) := rfl
theorem ternarise_eq : Cert.Kernel.cc1_ternarise (F := Bits) = Cert.KernelIdeal.cc1_ternarise (F := Bits) := rfl
theorem quantise_eq : Cert.Kernel.cc2_quantise (F := Bits) = Cert.KernelIdeal.cc2_quantise (F := Bits) := rfl
theorem matmul_eq : Cert.Kernel.cc3_matmul (F := Bits) = Cert.KernelIdeal.cc3_matmul (F := Bits) := rfl

theorem defs₀_eq : Cert.Kernel.defs₀ (F := Bits) = Cert.KernelIdeal.defs₀ (F := Bits) := by
  unfold Cert.Kernel.defs₀ Cert.KernelIdeal.defs₀
  refine congrArg Defs.onTc (funext fun l => ?_)
  match l with
  | ⟨0, _⟩ => rfl
  | ⟨1, _⟩ => rfl
  | ⟨2, _⟩ => rfl
  | ⟨3, _⟩ => rfl

theorem defs_eq : Cert.Kernel.defs (F := Bits) = Cert.KernelIdeal.defs (F := Bits) := by
  unfold Cert.Kernel.defs Cert.KernelIdeal.defs
  rw [defs₀_eq]
  rfl

theorem main_eq : Cert.Kernel.main (F := Bits) = Cert.KernelIdeal.main (F := Bits) := rfl

theorem frame : Cert.quiescent_Kernel (hKernel := Cert.Kernel.Gen.facts) := by
  intro m g _
  rw [defs_eq]
  exact Cert.KernelIdeal.Whole.frame (F := Bits) m g

end Cert.Transfer

end
-- ==== Proof.Scalars.lean ====
/-
  The layer's scalar arithmetic, at any float instance: the weight ternariser and the activation quantiser.
-/
module

public import Idealize.ShloMosaic.Lib.Pointwise

@[expose] public section

noncomputable section

namespace Cert.BitLinear

open Idealize.ShloMosaic

variable {F : FTy → Type} [FloatOps F]

/-- A weight's ternary code under the scale `g`: the quotient rounded to the nearest integer, ties to even, clipped to
    `-1 … 1`. -/
def tern (g w : F .f32) : BitVec 8 :=
  FloatOps.fptosi 8 (FloatOps.minimumf (φ := .f32) (Scalar.sitofp .f32 1#32)
    (FloatOps.maximumf (Scalar.sitofp .f32 4294967295#32) (FloatOps.roundeven (FloatOps.divf w g))))

/-- A row's scale from its largest magnitude `a`: `a` over 127, and 1 for a row of zeros. -/
def scale (a : F .f32) : F .f32 :=
  Scalar.select (FloatOps.cmpf .oeq a (Scalar.ofBits .f32 0x00000000#32)) (Scalar.ofBits .f32 0x3F800000#32)
    (FloatOps.divf a (Scalar.ofBits .f32 0x42FE0000#32))

/-- An activation's code under the row scale `s`. -/
def code (s x : F .f32) : BitVec 8 :=
  FloatOps.fptosi 8 (FloatOps.minimumf (φ := .f32) (Scalar.sitofp .f32 127#32)
    (FloatOps.maximumf (Scalar.sitofp .f32 4294967169#32) (FloatOps.roundeven (FloatOps.divf x s))))

/-- The largest magnitude of a row of extended reals, from `-∞`. -/
def rowMax {n : ℕ} (x : Fin n → EReal) : EReal :=
  Finset.univ.fold max (⊥ : EReal) fun k => max (x k) (-(x k))

/-- The weight scale: the mean magnitude of the weights. -/
def gammaOf (w : Fin 16384 → Fin 6144 → EReal) : EReal :=
  Scalar.divf (F := Ideal) (φ := .f32) (∑ i, ∑ k, max (w i k) (-(w i k))) (Scalar.ofBits (F := Ideal) .f32 0x4CC00000#32)

/-- The number an 8-bit code stands for. -/
def val (b : BitVec 8) : EReal := ((b.toInt : ℝ) : EReal)

/-- The pattern of negative infinity reads `⊥` in either float type the maxima start from. -/
theorem ofBits_negInf_bf16 : FloatOps.ofBits (F := Ideal) .bf16 0xFF80#16 = (⊥ : EReal) := by
  simp [FloatOps.ofBits, Ideal.ofBits]
  simp [Ideal.ieee]

theorem ofBits_negInf_f32 : FloatOps.ofBits (F := Ideal) .f32 0xFF800000#32 = (⊥ : EReal) := by
  simp [FloatOps.ofBits, Ideal.ofBits]
  simp [Ideal.ieee]

end Cert.BitLinear

end
-- ==== Proof.Sums.lean ====
/-
  Finite sums cut in tiles: the sums the launches take, re-indexed over the arrays' axes.
-/
module

public import Idealize.ShloMosaic.Lib.Pipeline.ValueKit

@[expose] public section

noncomputable section

namespace Cert.BitLinear

theorem tile_lt {N : ℕ} (hN : 16384 = N * 512) (p : Fin N) (q : Fin 64) (r : Fin 8) :
    p.val * 512 + (q.val * 8 + r.val) < 16384 := by
  have := p.isLt; have := q.isLt; have := r.isLt; omega

/-- The rows of the weight array as `N` blocks of 64 groups of 8 rows. -/
theorem sum_row_tiles {M : Type*} [AddCommMonoid M] {N : ℕ} (hN : 16384 = N * 512) (f : Fin 16384 → Fin 6144 → M) :
    ∑ r : Fin 8, ∑ k : Fin 6144, ∑ p : Fin N, ∑ q : Fin 64, f ⟨p.val * 512 + (q.val * 8 + r.val), tile_lt hN p q r⟩ k
      = ∑ i, ∑ k, f i k := by
  have h1 : ∀ r : Fin 8, (∑ k : Fin 6144, ∑ p : Fin N, ∑ q : Fin 64, f ⟨p.val * 512 + (q.val * 8 + r.val), tile_lt hN p q r⟩ k)
      = ∑ p : Fin N, ∑ q : Fin 64, ∑ k : Fin 6144, f ⟨p.val * 512 + (q.val * 8 + r.val), tile_lt hN p q r⟩ k := fun r => by
    rw [Finset.sum_comm]
    exact Finset.sum_congr rfl fun p _ => Finset.sum_comm
  rw [Finset.sum_congr rfl fun r _ => h1 r, Finset.sum_comm]
  rw [Finset.sum_congr rfl fun p _ => Finset.sum_comm]
  rw [← Fin.sum_mul_add_fin N 512 (fun i => ∑ k, f i k) hN]
  refine Finset.sum_congr rfl fun p _ => ?_
  exact Fin.sum_mul_add_congr (L := 512) (S := 64) (n := 8) (f := fun l : Fin 512 => ∑ k, f ⟨p.val * 512 + l.val, _⟩ k)
    fun s k hl => rfl

end Cert.BitLinear

end
-- ==== Proof.GammaValue.lean ====
/-
  The weight-scale launch's result: the mean magnitude of the weight array.
-/
module

public import proofs.«01_k».proof.Proof.GammaRegion
public import proofs.«01_k».proof.Proof.Scalars
public import Idealize.ShloMosaic.Lib.Pipeline.ValueKit
public import Idealize.ShloMosaic.Lib.Pipeline.ReadBack
public import proofs.«01_k».proof.Proof.Sums

@[expose] public section

set_option maxRecDepth 16384

noncomputable section

namespace Cert.KernelIdeal.Gamma

open Cert.KernelIdeal Cert.KernelIdeal.Gen Cert.BitLinear
open Idealize.ShloMosaic Idealize.ShloMosaic.TcCoe

section
variable {F : FTy → Type} [FloatOps F]

theorem step_tree (x : Vec F S512x6144 .bf16) (a : Vec F S8x6144 .f32) (r : Fin 8) (k : Fin 6144) :
    k0_pay2 x a (ix2 r k) = FloatOps.addf (a (ix2 r k))
      (multiReduction .add [0] S8x6144 (shapeCast S64x8x6144 (absf (extf .f32 x bitsLt_bf16_f32)) shapeCasts_S512x6144_S64x8x6144)
        0x00000000#32 reduces_S64x8x6144_S8x6144 (.inl rfl) rfl (ix2 r k)) := by
  pointwise [k0_pay2]

theorem zero_tree (r : Fin 8) (k : Fin 6144) : k0_pay1 (F := F) (ix2 r k) = Scalar.ofBits .f32 0x00000000#32 := by
  pointwise [k0_pay1]

theorem out_tree (a : Vec F S8x6144 .f32) :
    k0_pay3 a = Scalar.divf (F := F) (φ := .f32)
      (multiReduction .add [1, 2] S1 (shapeCast S1x8x6144 a shapeCasts_S8x6144_S1x8x6144) 0x00000000#32 reduces_S1x8x6144_S1
        (.inl rfl) rfl (ix1 0)) (Scalar.ofBits .f32 0x4CC00000#32) := by
  unfold k0_pay3
  dsimp only
  refine congrArg (fun z => Scalar.divf (F := F) (φ := .f32) z (Scalar.ofBits .f32 0x4CC00000#32)) ?_
  pointwise
end

theorem step_sum (x : Vec Ideal S512x6144 .bf16) (r : Fin 8) (k : Fin 6144) :
    multiReduction (F := Ideal) .add [0] S8x6144 (shapeCast S64x8x6144 (absf (extf .f32 x bitsLt_bf16_f32)) shapeCasts_S512x6144_S64x8x6144)
        0x00000000#32 reduces_S64x8x6144_S8x6144 (.inl rfl) rfl (ix2 r k)
      = ∑ q : Fin 64, max (x (ix2 ⟨q.val * 8 + r.val, by omega⟩ k)) (-(x (ix2 ⟨q.val * 8 + r.val, by omega⟩ k))) := by
  pointwise
  rfl

theorem out_sum (a : Vec Ideal S8x6144 .f32) :
    multiReduction (F := Ideal) .add [1, 2] S1 (shapeCast S1x8x6144 a shapeCasts_S8x6144_S1x8x6144) 0x00000000#32 reduces_S1x8x6144_S1
        (.inl rfl) rfl (ix1 0) = ∑ r : Fin 8, ∑ k : Fin 6144, a (ix2 r k) := by
  pointwise

variable (V : (c : Dev nD) → (b : Ref sig .tc) → Buf (Elt Ideal) ((c : Thread nD τ).loc b))

/-- The weight array, as the region finds it. -/
abbrev W (c : Dev nD) : Vec Ideal S16384x6144 .bf16 := V c main_arg1

theorem idx0 (t : Fin cfg0.N) : win0_0.index t = ![t.val, 0] := by
  revert t; decide +kernel
theorem idx1 (t : Fin cfg0.N) : win0_1.index t = ![0, 0] := by
  revert t; decide +kernel

/-- What grid point `t` adds to the accumulator's entry. -/
def term (c : Dev nD) (t : Fin cfg0.N) (y : S8x6144.Idx) : EReal :=
  ∑ q : Fin 64, max (W V c (ix2 ⟨t.val * 512 + (q.val * 8 + (y 0).val), by
      have h : t.val < 32 := lt_of_lt_of_eq t.isLt N_0
      have h2 : (y 0).val < 8 := (y 0).isLt
      omega⟩ (y 1)))
    (-(W V c (ix2 ⟨t.val * 512 + (q.val * 8 + (y 0).val), by
      have h : t.val < 32 := lt_of_lt_of_eq t.isLt N_0
      have h2 : (y 0).val < 8 := (y 0).isLt
      omega⟩ (y 1))))

theorem step_apply (c : Dev nD) (t : Fin cfg0.N) (a : Vec Ideal S8x6144 .f32) (y : S8x6144.Idx) :
    k0_pay2 (F := Ideal) (iblk V c 0 t) a y = a y + term V c t y := by
  rw [eq_ix2 y]
  refine (step_tree _ a (y 0) (y 1)).trans (congrArg (a (ix2 (y 0) (y 1)) + ·) ((step_sum _ (y 0) (y 1)).trans ?_))
  unfold term
  refine Finset.sum_congr rfl fun q _ => ?_
  have e : (iblk V c 0 t : Vec Ideal S512x6144 .bf16) (ix2 ⟨q.val * 8 + (y 0).val, by have h2 : (y 0).val < 8 := (y 0).isLt; omega⟩ (y 1))
      = W V c (ix2 ⟨t.val * 512 + (q.val * 8 + (y 0).val), by
        have h : t.val < 32 := lt_of_lt_of_eq t.isLt N_0
        have h2 : (y 0).val < 8 := (y 0).isLt
        omega⟩ (y 1)) := by
    blk_ext [iblk, idx0]
  exact congrArg (fun z : EReal => max z (-z)) e

theorem acc_apply (c : Dev nD) (t : Fin cfg0.N) (ht : t.val + 1 = cfg0.N) (y : S8x6144.Idx) :
    (outsAt0 V c t.val t.isLt).2 y = ∑ p : Fin cfg0.N, term V c p y := by
  refine (Pipeline.eq_sum_fin_of_reset_step_apply_last (fun n h => (outsAt0 V c n h).2) 32 (fun _ => (0 : EReal)) (term V c)
    ?_ ?_ (le_of_eq N_0) t ht y).trans (zero_add _)
  · intro t h y
    rw [outsAt0_A V c t h (by omega)]
    dsimp only
    frame_out
    refine (step_apply V c t _ y).trans (congrArg (· + term V c t y) ?_)
    rw [eq_ix2 y]
    refine (zero_tree _ _).trans ?_
    pointwise
  · intro t h y
    by_cases h1 : t.val % 32 = 31
    · rw [outsAt0_C V c t h h1]
      dsimp only
      frame_out
      simp only [read_unread_whole]
      exact step_apply V c t _ y
    · rw [outsAt0_B V c t h h1]
      dsimp only
      frame_out
      simp only [read_unread_whole]
      exact step_apply V c t _ y

/-- The last grid point. -/
def tlast : Fin cfg0.N := ⟨31, by decide⟩

theorem last_out (c : Dev nD) :
    (outsAt0 V c tlast.val tlast.isLt).1 = fun _ => k0_pay3 (outsAt0 V c tlast.val tlast.isLt).2 := by
  rw [outsAt0_C V c tlast (by decide) (by decide)]
  dsimp only
  frame_out
  rfl

theorem final1 (c : Dev nD) : (dats V 0 c).arrAt 1 cfg0.N
    = fun _ : S1x1.Idx => gammaOf fun i k => W V c (ix2 i k) := by
  refine (dats V 0 c).arrAt_eq_of_after_last 1 tlast (by decide +kernel) _ fun j => ?_
  blk_simp
  rw [after0_1]
  rw [last_out]
  show k0_pay3 (F := Ideal) _ = gammaOf fun i k => W V c (ix2 i k)
  rw [out_tree, out_sum]
  unfold gammaOf
  have h : (∑ r : Fin 8, ∑ k : Fin 6144, (outsAt0 V c tlast.val tlast.isLt).2 (ix2 r k))
      = ∑ i : Fin 16384, ∑ k : Fin 6144, max (W V c (ix2 i k)) (-(W V c (ix2 i k))) := by
    simp only [acc_apply V c tlast rfl]
    exact sum_row_tiles (N := cfg0.N) (by rw [show cfg0.N = 32 from N_0])
      fun i k => max (W V c (ix2 i k)) (-(W V c (ix2 i k)))
  rw [h]

end Cert.KernelIdeal.Gamma

end
-- ==== Proof.Fields.lean ====
/-
  Ternary codes as two-bit fields: a code plus one is 0, 1 or 2, and four of them packed in a byte.
-/
module

public import proofs.«01_k».proof.Proof.Scalars

@[expose] public section

noncomputable section

namespace Cert.BitLinear

open Idealize.ShloMosaic

section
variable {F : FTy → Type} [FloatOps F]

/-- The rounded and clipped quotient whose integer is the code. -/
def ternF (g w : F .f32) : F .f32 :=
  FloatOps.minimumf (φ := .f32) (Scalar.sitofp .f32 1#32)
    (FloatOps.maximumf (Scalar.sitofp .f32 4294967295#32) (FloatOps.roundeven (FloatOps.divf w g)))

/-- The field of a weight: its code plus one, added before the conversion to an integer. -/
def field (g w : F .f32) : BitVec 8 :=
  FloatOps.fptosi 8 (FloatOps.addf (ternF g w) (Scalar.ofBits .f32 0x3F800000#32))
end

/-- Four fields in a byte, the first lowest. -/
def pack4 (b0 b1 b2 b3 : BitVec 8) : BitVec 8 := b0 ||| b1 <<< 2 ||| b2 <<< 4 ||| b3 <<< 6

theorem ternF_cases (g w : EReal) : ternF (F := Ideal) g w = (((-1 : ℤ) : ℝ) : EReal) ∨ ternF (F := Ideal) g w = (((0 : ℤ) : ℝ) : EReal)
    ∨ ternF (F := Ideal) g w = (((1 : ℤ) : ℝ) : EReal) := by
  have h1 : (1#32).toInt = 1 := by decide
  have h2 : (4294967295#32).toInt = -1 := by decide
  have key : ∀ d : EReal, min (((1 : ℤ) : ℝ) : EReal) (max (((-1 : ℤ) : ℝ) : EReal) (Ideal.liftRound Ideal.roundHalfEven d)) = (((-1 : ℤ) : ℝ) : EReal)
      ∨ min (((1 : ℤ) : ℝ) : EReal) (max (((-1 : ℤ) : ℝ) : EReal) (Ideal.liftRound Ideal.roundHalfEven d)) = (((0 : ℤ) : ℝ) : EReal)
      ∨ min (((1 : ℤ) : ℝ) : EReal) (max (((-1 : ℤ) : ℝ) : EReal) (Ideal.liftRound Ideal.roundHalfEven d)) = (((1 : ℤ) : ℝ) : EReal) := by
    intro d
    induction d with
    | bot =>
      refine .inl ?_
      rw [Ideal.liftRound_bot, max_eq_left bot_le]
      exact min_eq_right (EReal.coe_le_coe_iff.2 (by norm_num))
    | top =>
      refine .inr (.inr ?_)
      rw [Ideal.liftRound_top, max_eq_right le_top]
      exact min_eq_left le_top
    | coe r =>
      rw [Ideal.liftRound_coe]
      generalize Ideal.roundHalfEven r = k
      have e : min (((1 : ℤ) : ℝ) : EReal) (max (((-1 : ℤ) : ℝ) : EReal) ((k : ℝ) : EReal)) = ((min (1 : ℤ) (max (-1) k) : ℤ) : ℝ) := by
        rw [Int.cast_min, Int.cast_max, EReal.coe_strictMono.monotone.map_min, EReal.coe_strictMono.monotone.map_max]
      rw [e]
      have : min (1 : ℤ) (max (-1) k) = -1 ∨ min (1 : ℤ) (max (-1) k) = 0 ∨ min (1 : ℤ) (max (-1) k) = 1 := by omega
      rcases this with h | h | h <;> rw [h] <;> simp
  have := key (FloatOps.divf (F := Ideal) (φ := .f32) w g)
  unfold ternF
  have e1 : (Scalar.sitofp (F := Ideal) .f32 1#32 : EReal) = (((1 : ℤ) : ℝ) : EReal) := by
    show (((1#32).toInt : ℝ) : EReal) = _
    rw [h1]
  have e2 : (Scalar.sitofp (F := Ideal) .f32 4294967295#32 : EReal) = (((-1 : ℤ) : ℝ) : EReal) := by
    show (((4294967295#32).toInt : ℝ) : EReal) = _
    rw [h2]
  rw [e1, e2]
  exact this

theorem one_bits : (Scalar.ofBits (F := Ideal) .f32 0x3F800000#32 : EReal) = ((1 : ℝ) : EReal) := by
  pointwise
  exact EReal.coe_one.symm

theorem fptosi_int (n : ℤ) (h : -128 ≤ n) (h' : n ≤ 127) : FloatOps.fptosi (F := Ideal) (φ := .f32) 8 ((n : ℝ) : EReal) = BitVec.ofInt 8 n := by
  show Ideal.fptosi 8 ((n : ℝ) : EReal) = _
  unfold Ideal.fptosi
  rw [Ideal.toIntClamped_coe, Int.floor_intCast, Int.ceil_intCast]
  congr 1
  simp only [ite_self]
  norm_num
  omega

theorem field_cases (g w : EReal) : field (F := Ideal) g w = tern (F := Ideal) g w + 1#8
    ∧ (field (F := Ideal) g w = 0#8 ∨ field (F := Ideal) g w = 1#8 ∨ field (F := Ideal) g w = 2#8) := by
  have ht : tern (F := Ideal) g w = FloatOps.fptosi (F := Ideal) (φ := .f32) 8 (ternF (F := Ideal) g w) := rfl
  have hf : ∀ n : ℤ, ternF (F := Ideal) g w = ((n : ℝ) : EReal) → -1 ≤ n → n ≤ 1 → field (F := Ideal) g w = BitVec.ofInt 8 (n + 1) := by
    intro n h h1 h2
    unfold field
    rw [h, one_bits]
    have : FloatOps.addf (F := Ideal) (φ := .f32) ((n : ℝ) : EReal) ((1 : ℝ) : EReal) = (((n + 1 : ℤ) : ℝ) : EReal) := by
      show ((n : ℝ) : EReal) + ((1 : ℝ) : EReal) = _
      rw [← EReal.coe_add, Int.cast_add, Int.cast_one]
    rw [this]
    exact fptosi_int (n + 1) (by omega) (by omega)
  rcases ternF_cases g w with h | h | h <;> rw [ht, hf _ h (by decide) (by decide), h, fptosi_int _ (by decide) (by decide)] <;> decide

/-- A field is below four. -/
theorem field_small (g w : EReal) (j : ℕ) (hj : 2 ≤ j) : (field (F := Ideal) g w).getLsbD j = false := by
  have h3 : ∀ b : BitVec 8, b = 0#8 ∨ b = 1#8 ∨ b = 2#8 → ∀ j, 2 ≤ j → b.getLsbD j = false := by
    intro b hb j hj
    by_cases h8 : j < 8
    · rcases hb with rfl | rfl | rfl <;> interval_cases j <;> rfl
    · exact BitVec.getLsbD_of_ge _ _ (by omega)
  exact h3 _ (field_cases g w).2 j hj

/-- A word shifted by at most six bits, where every byte holds two bits: each byte is shifted within itself. -/
theorem shl_byte (f : BitVec 32) (hf : ∀ b j, b < 4 → 2 ≤ j → j < 8 → f.getLsbD (8 * b + j) = false) (k b i : ℕ) (hk : k ≤ 6) (hb : b < 4)
    (hi : i < 8) : (f <<< k).getLsbD (8 * b + i) = (!decide (i < k) && f.getLsbD (8 * b + (i - k))) := by
  rw [BitVec.getLsbD_shiftLeft]
  by_cases h : i < k
  · simp only [h, decide_true, Bool.not_true, Bool.false_and]
    by_cases h0 : 8 * b + i < k
    · simp [h0]
    · have e : 8 * b + i - k = 8 * (b - 1) + (8 + i - k) := by omega
      rw [e, hf (b - 1) (8 + i - k) (by omega) (by omega) (by omega), Bool.and_false]
  · have h0 : ¬8 * b + i < k := by omega
    have h1 : 8 * b + i < 32 := by omega
    have e : 8 * b + i - k = 8 * b + (i - k) := by omega
    simp [h, h0, h1, e]

/-- Four words of two-bit fields, joined pairwise and then pair with pair: byte `b` packs the words' bytes `b`. -/
theorem joined_byte (f0 f1 f2 f3 : BitVec 32) (c0 c1 c2 c3 : BitVec 8)
    (h0 : ∀ b j, b < 4 → 2 ≤ j → j < 8 → f0.getLsbD (8 * b + j) = false) (h1 : ∀ b j, b < 4 → 2 ≤ j → j < 8 → f1.getLsbD (8 * b + j) = false)
    (h2 : ∀ b j, b < 4 → 2 ≤ j → j < 8 → f2.getLsbD (8 * b + j) = false) (h3 : ∀ b j, b < 4 → 2 ≤ j → j < 8 → f3.getLsbD (8 * b + j) = false)
    (b : ℕ) (hb : b < 4) (e0 : ∀ i, i < 8 → f0.getLsbD (8 * b + i) = c0.getLsbD i) (e1 : ∀ i, i < 8 → f1.getLsbD (8 * b + i) = c1.getLsbD i)
    (e2 : ∀ i, i < 8 → f2.getLsbD (8 * b + i) = c2.getLsbD i) (e3 : ∀ i, i < 8 → f3.getLsbD (8 * b + i) = c3.getLsbD i) (i : ℕ) (hi : i < 8) :
    ((f0 ||| f1 <<< 2) ||| (f2 ||| f3 <<< 2) <<< 4).getLsbD (8 * b + i) = (pack4 c0 c1 c2 c3).getLsbD i := by
  have hs : (f2 ||| f3 <<< 2) <<< 4 = f2 <<< 4 ||| f3 <<< 6 := by
    apply BitVec.eq_of_getLsbD_eq
    intro q hq
    simp only [BitVec.getLsbD_or, BitVec.getLsbD_shiftLeft]
    by_cases a : q < 4
    · have : q < 6 := by omega
      simp [a, this]
    · by_cases a6 : q < 6
      · have : q - 4 < 2 := by omega
        simp [a, a6, this, hq]
      · have n2 : ¬q - 4 < 2 := by omega
        have l : q - 4 < 32 := by omega
        have e : q - 4 - 2 = q - 6 := by omega
        simp [a, a6, n2, hq, l, e]
  rw [hs]
  unfold pack4
  simp only [BitVec.getLsbD_or]
  rw [shl_byte f1 h1 2 b i (by omega) hb hi, shl_byte f2 h2 4 b i (by omega) hb hi, shl_byte f3 h3 6 b i (by omega) hb hi,
    e0 i hi, e1 _ (by omega), e2 _ (by omega), e3 _ (by omega)]
  simp only [BitVec.getLsbD_shiftLeft, hi, decide_true, Bool.true_and, Bool.or_assoc]

end Cert.BitLinear

end
-- ==== Proof.TernStep.lean ====
/-
  One grid point of the ternarise launch: the two blocks it stores, chunk by chunk, and what each chunk's words hold.
-/
module

public import proofs.«01_k».proof.Proof.TernRegion
public import proofs.«01_k».proof.Proof.Fields
public import Idealize.ShloMosaic.Lib.BitcastFour
public import Idealize.ShloMosaic.Lib.Pipeline.ValueKit
public import Idealize.ShloMosaic.Lib.Pipeline.ReadBack

@[expose] public section

set_option maxRecDepth 16384
set_option maxHeartbeats 1000000
noncomputable section
namespace Cert.KernelIdeal.Tern
open Cert.KernelIdeal Cert.KernelIdeal.Gen Cert.BitLinear
open Idealize.ShloMosaic Idealize.ShloMosaic.TcCoe
variable {F : FTy → Type} [FloatOps F]

/-- The block's 128 columns from column `o`. -/
abbrev cols (w : Vec F S256x6144 .bf16) (o : ℕ) (inb : ∀ a, (![0, o] : Fin S256x6144.rank → ℕ) a + S256x128.size a ≤ S256x6144.size a) : Vec F S256x128 .bf16 :=
  View.ld w (Rect.unit (s := S256x6144) ![0, o] S256x128.size inb)

/-- A chunk's codes are its entries' codes. -/
theorem chunk_tree (g : F .f32) (w : Vec F S256x128 .bf16) (r : Fin 256) (p : Fin 128) :
    k1_pay4 g w (ix2 r p) = tern (F := F) g (FloatOps.extf .f32 bitsLt_bf16_f32 (w (ix2 r p))) := by
  pointwise [k1_pay4, k1_pay3, tern]

theorem chunk_piece (g : F .f32) (w : Vec F S256x6144 .bf16) (o : ℕ) (inb : ∀ a, (![0, o] : Fin S256x6144.rank → ℕ) a + S256x128.size a ≤ S256x6144.size a) (x : S256x128.Idx) :
    k1_pay4 g (cols w o inb) x = tern (F := F) g (FloatOps.extf .f32 bitsLt_bf16_f32
      (w ((Rect.unit (s := S256x6144) ![0, o] S256x128.size inb).emb x))) := by
  rw [eq_ix2 x]
  exact chunk_tree g _ (x 0) (x 1)

/-- A chunk's fields (code plus one), four rows to a word. -/
def word (g : F .f32) (w : Vec F S256x128 .bf16) : IVec S64x128 32 :=
  bitcast S64x128 32 (fptosi 8 (addf (k1_pay3 g w) (broadcast S256x128 (Scalar.ofBits .f32 0x3F800000#32) : FVec F S256x128 .f32)))
    bitcasts_S256x128_w8_S64x128_w32

/-- Each lane's word joined with the next lane's, two bits up. -/
def join1 (f : IVec S64x128 32) : IVec S64x128 32 :=
  ori f (shli (dynamicRotate 1 127#32 none f rotates_S64x128_d1) (broadcast S64x128 2#32))

/-- Each lane's word joined with the second next lane's, four bits up. -/
def join2 (y : IVec S64x128 32) : IVec S64x128 32 :=
  ori y (shli (dynamicRotate 1 126#32 none y rotates_S64x128_d1) (broadcast S64x128 4#32))

/-- The lane each lane gathers from. -/
def source : IVec S64x128 32 :=
  shapeCast S64x128 (shapeCast S64x128x1 (select (cmpi .slt k1_pay2 (broadcast S64x128 0#32)) (addi k1_pay2 (broadcast S64x128 128#32)) k1_pay2)
    shapeCasts_S64x128_S64x128x1) shapeCasts_S64x128x1_S64x128

/-- A chunk's packed words, gathered. -/
def fields (g : F .f32) (w : Vec F S256x128 .bf16) : IVec S64x128 32 :=
  dynamicGather 1 (join2 (join1 (word g w))) source

/-- Four chunks' packed words, a quarter of the lanes each. -/
def quarters (f0 f1 f2 f3 : IVec S64x128 32) : IVec S64x128 32 :=
  select (cmpi .sge (iota .tc S64x128 32 [1] iota_S64x128_d1_w32) (broadcast S64x128 96#32)) f3
    (select (cmpi .sge (iota .tc S64x128 32 [1] iota_S64x128_d1_w32) (broadcast S64x128 64#32)) f2
      (select (cmpi .sge (iota .tc S64x128 32 [1] iota_S64x128_d1_w32) (broadcast S64x128 32#32)) f1 f0))

theorem inbP (n : Fin 12) : ∀ a, (![0, 128 * n.val] : Fin S256x1536.rank → ℕ) a + S256x128.size a ≤ S256x1536.size a := by
  revert n; decide +kernel
theorem inbQ (n : Fin 12) (q : Fin 4) : ∀ a, (![0, 512 * n.val + 128 * q.val] : Fin S256x6144.rank → ℕ) a + S256x128.size a ≤ S256x6144.size a := by
  revert n q; decide +kernel

/-- The packed store of the four chunks from column `512 n`. -/
abbrev packPiece (g : F .f32) (w : Vec F S256x6144 .bf16) (n : Fin 12) : View.Piece (Elt F) S256x1536 .i8 :=
  ⟨Rect.unit (s := S256x1536) ![0, 128 * n.val] S256x128.size (inbP n),
    bitcast S256x128 8 (quarters (fields g (cols w (512 * n.val + 128 * (0 : Fin 4).val) (inbQ n 0))) (fields g (cols w (512 * n.val + 128 * (1 : Fin 4).val) (inbQ n 1)))
      (fields g (cols w (512 * n.val + 128 * (2 : Fin 4).val) (inbQ n 2))) (fields g (cols w (512 * n.val + 128 * (3 : Fin 4).val) (inbQ n 3)))) bitcasts_S64x128_w32_S256x128_w8⟩

/-- All of them, the last first. -/
def packPieces (g : F .f32) (w : Vec F S256x6144 .bf16) : List (View.Piece (Elt F) S256x1536 .i8) :=
  [11, 10, 9, 8, 7, 6, 5, 4, 3, 2, 1, 0].map (packPiece g w)

theorem inbT (n : Fin 48) : ∀ a, (![0, 128 * n.val] : Fin S256x6144.rank → ℕ) a + S256x128.size a ≤ S256x6144.size a := by
  revert n; decide +kernel

/-- The codes' store of chunk `n`. -/
abbrev codePiece (g : F .f32) (w : Vec F S256x6144 .bf16) (n : Fin 48) : View.Piece (Elt F) S256x6144 .i8 :=
  ⟨Rect.unit (s := S256x6144) ![0, 128 * n.val] S256x128.size (inbT n), k1_pay4 g (cols w (128 * n.val) (inbT n))⟩

/-- All of them, the last first. -/
def codePieces (g : F .f32) (w : Vec F S256x6144 .bf16) : List (View.Piece (Elt F) S256x6144 .i8) :=
  [47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0].map (codePiece g w)

variable (V : (c : Dev nD) → (b : Ref sig .tc) → Buf (Elt F) ((c : Thread nD τ).loc b))

/-- The weight scale and the weight block as grid point `t` finds them. -/
abbrev gAt (c : Dev nD) (t : Fin cfg1.N) : F .f32 :=
  View.ld (iblk V c 0 t : Vec F S1x1 .f32) (Rect.unit (s := S1x1) ![0, 0] S1x1.size inb_S1x1_S1x1_0_0) (Shape.Idx.first (show 0 < S1x1.numel by decide))
abbrev wAt (c : Dev nD) (t : Fin cfg1.N) : Vec F S256x6144 .bf16 := iblk V c 1 t

theorem gAt_eq (c : Dev nD) (t : Fin cfg1.N) : gAt V c t = (iblk V c 0 t : Vec F S1x1 .f32) (ix2 0 0) := by
  refine congrArg (iblk V c 0 t) (funext fun a => ?_)
  match a with
  | ⟨0, _⟩ => exact Subsingleton.elim (α := Fin 1) _ _
  | ⟨1, _⟩ => exact Subsingleton.elim (α := Fin 1) _ _

theorem codes_open (c : Dev nD) (t : Fin cfg1.N) : (outsAt1 V c t).1 = View.canon (codePieces (gAt V c t) (wAt V c t)) := by
  unfold outsAt1
  dsimp only
  frame_out
  rfl

theorem packed_open (c : Dev nD) (t : Fin cfg1.N) : (outsAt1 V c t).2 = View.canon (packPieces (gAt V c t) (wAt V c t)) := by
  unfold outsAt1
  dsimp only
  frame_out
  rfl

/-! ## The stored codes at an index -/

theorem codes_apply (c : Dev nD) (t : Fin cfg1.N) (y : S256x6144.Idx) : (outsAt1 V c t).1 y
    = tern (F := F) (gAt V c t) (FloatOps.extf .f32 bitsLt_bf16_f32 (wAt V c t y)) := by
  rw [codes_open]
  refine View.canon_apply_of_pieces (Val := Elt F) (e := .i8)
    (fun y => tern (F := F) (gAt V c t) (FloatOps.extf .f32 bitsLt_bf16_f32 (wAt V c t y))) _ ?_ y ?_
  · intro p hp x
    obtain ⟨n, -, rfl⟩ := List.mem_map.1 hp
    exact chunk_piece (gAt V c t) (wAt V c t) (128 * n.val) (inbT n) x
  · have h0 : (y 0).val < 256 := (y 0).isLt
    have h1 : (y 1).val < 6144 := (y 1).isLt
    have hn : (⟨(y 1).val / 128, by omega⟩ : Fin 48) ∈ ([47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0] : List (Fin 48)) := by
      have : ∀ n : Fin 48, n ∈ ([47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0] : List (Fin 48)) := by decide
      exact this _
    refine ⟨codePiece (gAt V c t) (wAt V c t) ⟨(y 1).val / 128, by omega⟩, List.mem_map.2 ⟨_, hn, rfl⟩, ?_⟩
    refine (Rect.mem_set_unit (inb := inbT ⟨(y 1).val / 128, by omega⟩)).2 fun a => ?_
    match a with
    | ⟨0, _⟩ => exact ⟨Nat.zero_le _, by show (y 0).val < 0 + 256; omega⟩
    | ⟨1, _⟩ => exact ⟨by show 128 * ((y 1).val / 128) ≤ (y 1).val; omega, by show (y 1).val < 128 * ((y 1).val / 128) + 128; omega⟩

/-! ## The packed words at an index -/

/-- The fields of a chunk, byte by byte. -/
theorem word_bit (g : F .f32) (w : Vec F S256x128 .bf16) (a : Fin 64) (l : Fin 128) (b j : ℕ) (hb : b < 4) (hj : j < 8) :
    (word g w (ix2 a l)).getLsbD (8 * b + j)
      = (field (F := F) g (FloatOps.extf .f32 bitsLt_bf16_f32 (w (ix2 ⟨4 * a.val + b, by omega⟩ l)))).getLsbD j := by
  unfold word
  refine (bitcast_8_32_getLsbD_ix2 _ _ a l (8 * b + j) (by omega) ⟨4 * a.val + b, by omega⟩ (by show 4 * a.val + b = 4 * a.val + (8 * b + j) / 8; omega)).trans ?_
  have e : (8 * b + j) % 8 = j := by omega
  rw [e]
  refine congrArg (fun z : BitVec 8 => z.getLsbD j) ?_
  pointwise [k1_pay3, field, ternF]
  rfl

/-- A word's bytes after the read back at eight bits. -/
theorem byte_bit (z : IVec S64x128 32) (r : Fin 256) (l : Fin 128) (i : ℕ) (hi : i < 8) :
    (bitcast S256x128 8 z bitcasts_S64x128_w32_S256x128_w8 (ix2 r l)).getLsbD i
      = (z (ix2 ⟨r.val / 4, by omega⟩ l)).getLsbD (8 * (r.val % 4) + i) := by
  rw [bitcast_getLsbD z bitcasts_S64x128_w32_S256x128_w8 _ i hi (by decide)]
  have e1 : Shape.row S256x128 (ix2 r l) = r.val := rfl
  have e2 : (r.val * 8 + i) % 32 = 8 * (r.val % 4) + i := by omega
  simp only [e1, e2]
  congr 2
  funext k
  match k with
  | ⟨0, _⟩ => exact Fin.ext ((Shape.Bitcasts.srcIdx_row _ _ _ _ ⟨0, Nat.zero_lt_two⟩ rfl).trans (by show (r.val * 8 + i) / 32 = r.val / 4; omega))
  | ⟨1, _⟩ => exact Fin.ext (Shape.Bitcasts.srcIdx_other _ _ _ _ ⟨1, Nat.one_lt_two⟩ (by show ¬ 1 + 2 = 2; omega))

theorem rotate_next (f : IVec S64x128 32) (a : Fin 64) (l : Fin 128) :
    dynamicRotate 1 127#32 none f rotates_S64x128_d1 (ix2 a l) = f (ix2 a ⟨(l.val + 1) % 128, Nat.mod_lt _ (by decide)⟩) := by
  refine congrArg f (funext fun b => ?_)
  match b with
  | ⟨0, _⟩ => rfl
  | ⟨1, _⟩ => exact Fin.ext (by show (l.val + 128 - 127 % 128) % 128 = (l.val + 1) % 128; omega)

theorem rotate_next2 (f : IVec S64x128 32) (a : Fin 64) (l : Fin 128) :
    dynamicRotate 1 126#32 none f rotates_S64x128_d1 (ix2 a l) = f (ix2 a ⟨(l.val + 2) % 128, Nat.mod_lt _ (by decide)⟩) := by
  refine congrArg f (funext fun b => ?_)
  match b with
  | ⟨0, _⟩ => rfl
  | ⟨1, _⟩ => exact Fin.ext (by show (l.val + 128 - 126 % 128) % 128 = (l.val + 2) % 128; omega)

theorem join1_apply (f : IVec S64x128 32) (a : Fin 64) (l : Fin 128) :
    join1 f (ix2 a l) = f (ix2 a l) ||| f (ix2 a ⟨(l.val + 1) % 128, Nat.mod_lt _ (by decide)⟩) <<< 2 := by
  rw [← rotate_next f a l]
  rfl

theorem join2_apply (f : IVec S64x128 32) (a : Fin 64) (l : Fin 128) :
    join2 f (ix2 a l) = f (ix2 a l) ||| f (ix2 a ⟨(l.val + 2) % 128, Nat.mod_lt _ (by decide)⟩) <<< 4 := by
  rw [← rotate_next2 f a l]
  rfl

/-- Lane `l` gathers from lane `4 (l % 32)`. -/
theorem source_apply (a : Fin 64) (l : Fin 128) : (source (ix2 a l)).toNat % 128 = 4 * (l.val % 32) := by
  unfold source
  pointwise [k1_pay2]
  revert l
  decide +kernel

theorem gather_apply (y : IVec S64x128 32) (a : Fin 64) (l : Fin 128) :
    dynamicGather 1 y source (ix2 a l) = y (ix2 a ⟨4 * (l.val % 32), by omega⟩) := by
  refine congrArg y (funext fun b => ?_)
  match b with
  | ⟨0, _⟩ => rfl
  | ⟨1, _⟩ => exact Fin.ext (source_apply a l)

theorem sge_lane (a : Fin 64) (l : Fin 128) (n : BitVec 32) : cmpi .sge (iota .tc S64x128 32 [1] iota_S64x128_d1_w32) (broadcast S64x128 n) (ix2 a l)
    = IntOp.cmpi .sge (BitVec.ofNat 32 l.val) n := by
  pointwise

theorem quarters_apply (f : Fin 4 → IVec S64x128 32) (a : Fin 64) (l : Fin 128) :
    quarters (f 0) (f 1) (f 2) (f 3) (ix2 a l) = f ⟨l.val / 32, by omega⟩ (ix2 a l) := by
  have h (n : BitVec 32) (x y : IVec S64x128 32) : select (cmpi .sge (iota .tc S64x128 32 [1] iota_S64x128_d1_w32) (broadcast S64x128 n)) x y (ix2 a l)
      = if IntOp.cmpi .sge (BitVec.ofNat 32 l.val) n = 1#1 then x (ix2 a l) else y (ix2 a l) := by
    rw [← sge_lane a l n]
    rfl
  have g : ∀ l : Fin 128, (IntOp.cmpi .sge (BitVec.ofNat 32 l.val) 96#32 = 1#1 ↔ 96 ≤ l.val)
      ∧ (IntOp.cmpi .sge (BitVec.ofNat 32 l.val) 64#32 = 1#1 ↔ 64 ≤ l.val)
      ∧ (IntOp.cmpi .sge (BitVec.ofNat 32 l.val) 32#32 = 1#1 ↔ 32 ≤ l.val) := by
    decide +kernel
  unfold quarters
  rw [h, h, h]
  simp only [(g l).1, (g l).2.1, (g l).2.2]
  have hl : l.val < 128 := l.isLt
  split_ifs with h3 h2 h1
  · exact congrArg (fun q => f q (ix2 a l)) (Fin.ext (by show 3 = l.val / 32; omega))
  · exact congrArg (fun q => f q (ix2 a l)) (Fin.ext (by show 2 = l.val / 32; omega))
  · exact congrArg (fun q => f q (ix2 a l)) (Fin.ext (by show 1 = l.val / 32; omega))
  · exact congrArg (fun q => f q (ix2 a l)) (Fin.ext (by show 0 = l.val / 32; omega))

end Cert.KernelIdeal.Tern
-- ==== Proof.TernValue.lean ====
/-
  The ternarise launch over the reals: the codes of the weight, and the packed word of every four adjacent codes.
-/
module

public import proofs.«01_k».proof.Proof.TernStep
public import Idealize.ShloMosaic.Lib.Pipeline.Covers

@[expose] public section

set_option maxHeartbeats 1000000
set_option maxRecDepth 20000

noncomputable section

namespace Cert.KernelIdeal.Tern

open Cert.KernelIdeal Cert.KernelIdeal.Gen Cert.BitLinear
open Idealize.ShloMosaic Idealize.ShloMosaic.TcCoe

/-- The field of the weight `w` at row `r`, column `k`. -/
abbrev fieldAt (g : EReal) (w : Vec Ideal S256x6144 .bf16) (r : Fin 256) (k : ℕ) (h : k < 6144) : BitVec 8 :=
  field (F := Ideal) g (FloatOps.extf (F := Ideal) .f32 bitsLt_bf16_f32 (w (ix2 r ⟨k, h⟩)))

theorem cols_apply (w : Vec Ideal S256x6144 .bf16) (o : ℕ)
    (inb : ∀ a, (![0, o] : Fin S256x6144.rank → ℕ) a + S256x128.size a ≤ S256x6144.size a) (r : Fin 256) (p : Fin 128) (h : o + p.val < 6144) :
    cols w o inb (ix2 r p) = w (ix2 r ⟨o + p.val, h⟩) := by
  refine congrArg w (funext fun a => ?_)
  match a with
  | ⟨0, _⟩ => exact Fin.ext ((Rect.idx_unit_val _ _ _ _ _).trans (Nat.zero_add _))
  | ⟨1, _⟩ => exact Fin.ext (Rect.idx_unit_val _ _ _ _ _)

/-- A byte of the gathered words: the four adjacent fields from column `4 (l % 32)` of the chunk. -/
theorem fields_bit (g : EReal) (w : Vec Ideal S256x6144 .bf16) (o : ℕ)
    (inb : ∀ a, (![0, o] : Fin S256x6144.rank → ℕ) a + S256x128.size a ≤ S256x6144.size a) (a : Fin 64) (l : Fin 128) (b : ℕ) (hb : b < 4)
    (r : Fin 256) (hr : r.val = 4 * a.val + b) (k : ℕ) (hk : k = o + 4 * (l.val % 32)) (h : k + 3 < 6144) (i : ℕ) (hi : i < 8) :
    (fields (F := Ideal) g (cols w o inb) (ix2 a l)).getLsbD (8 * b + i)
      = (pack4 (fieldAt g w r k (by omega)) (fieldAt g w r (k + 1) (by omega)) (fieldAt g w r (k + 2) (by omega)) (fieldAt g w r (k + 3) h)).getLsbD i := by
  unfold fields
  rw [gather_apply, join2_apply, join1_apply, join1_apply]
  have small : ∀ p : Fin 128, ∀ b j, b < 4 → 2 ≤ j → j < 8 → (word (F := Ideal) g (cols w o inb) (ix2 a p)).getLsbD (8 * b + j) = false := by
    intro p b j hb h2 h8
    rw [word_bit g (cols w o inb) a p b j hb h8]
    exact field_small _ _ j h2
  have eq : ∀ (p : Fin 128) (m : ℕ) (hm : m < 6144), m = o + p.val → ∀ j, j < 8 →
      (word (F := Ideal) g (cols w o inb) (ix2 a p)).getLsbD (8 * b + j) = (fieldAt g w r m hm).getLsbD j := by
    intro p m hm hp j hj
    subst hp
    rw [word_bit g (cols w o inb) a p b j hb hj, cols_apply w o inb _ p hm]
    have : (⟨4 * a.val + b, by omega⟩ : Fin 256) = r := Fin.ext hr.symm
    rw [this]
  refine joined_byte _ _ _ _ _ _ _ _ (small _) (small _) (small _) (small _) b hb (eq _ _ _ ?_) (eq _ _ _ ?_) (eq _ _ _ ?_) (eq _ _ _ ?_) i hi
  · exact hk
  · show k + 1 = o + (4 * (l.val % 32) + 1) % 128; omega
  · show k + 2 = o + (4 * (l.val % 32) + 2) % 128; omega
  · show k + 3 = o + ((4 * (l.val % 32) + 2) % 128 + 1) % 128; omega

/-- The packed word at row `r`, column `k`. -/
abbrev packedAt (g : EReal) (w : Vec Ideal S256x6144 .bf16) (y : S256x1536.Idx) : BitVec 8 :=
  pack4 (fieldAt g w (y 0) (4 * (y 1).val) (by have : (y 1).val < 1536 := (y 1).isLt; omega))
    (fieldAt g w (y 0) (4 * (y 1).val + 1) (by have : (y 1).val < 1536 := (y 1).isLt; omega))
    (fieldAt g w (y 0) (4 * (y 1).val + 2) (by have : (y 1).val < 1536 := (y 1).isLt; omega))
    (fieldAt g w (y 0) (4 * (y 1).val + 3) (by have : (y 1).val < 1536 := (y 1).isLt; omega))

theorem packPiece_apply (g : EReal) (w : Vec Ideal S256x6144 .bf16) (n : Fin 12) (r : Fin 256) (l : Fin 128) (y : S256x1536.Idx)
    (h0 : y 0 = r) (h1 : (y 1).val = 128 * n.val + l.val) : (packPiece (F := Ideal) g w n).2 (ix2 r l) = packedAt g w y := by
  apply BitVec.eq_of_getLsbD_eq
  intro i hi
  refine (byte_bit _ r l i hi).trans ?_
  rw [quarters_apply (fun q => fields (F := Ideal) g (cols w (512 * n.val + 128 * q.val) (inbQ n q)))]
  subst h0
  refine fields_bit g w _ (inbQ n ⟨l.val / 32, by omega⟩) _ l _ (Nat.mod_lt _ (by decide)) (y 0) (by show (y 0).val = 4 * ((y 0).val / 4) + (y 0).val % 4; omega) _ ?_ _ i hi
  show 4 * (y 1).val = 512 * n.val + 128 * (l.val / 32) + 4 * (l.val % 32)
  omega

variable (V : (c : Dev nD) → (b : Ref sig .tc) → Buf (Elt Ideal) ((c : Thread nD τ).loc b))

theorem packed_apply (c : Dev nD) (t : Fin cfg1.N) (y : S256x1536.Idx) : (outsAt1 V c t).2 y = packedAt (gAt V c t) (wAt V c t) y := by
  rw [packed_open]
  refine View.canon_apply_of_pieces (Val := Elt Ideal) (e := .i8) (fun y => packedAt (gAt V c t) (wAt V c t) y) _ ?_ y ?_
  · intro p hp x
    obtain ⟨n, -, rfl⟩ := List.mem_map.1 hp
    have e : x = ix2 (x 0) (x 1) := funext fun a => by match a with | ⟨0, _⟩ => rfl | ⟨1, _⟩ => rfl
    refine (congrArg (packPiece (F := Ideal) (gAt V c t) (wAt V c t) n).2 e).trans (packPiece_apply (gAt V c t) (wAt V c t) n (x 0) (x 1) _ ?_ ?_)
    · exact Fin.ext ((Rect.idx_unit_val _ _ (inbP n) x 0).trans (Nat.zero_add (x 0).val))
    · exact Rect.idx_unit_val _ _ (inbP n) x 1
  · have h0 : (y 0).val < 256 := (y 0).isLt
    have h1 : (y 1).val < 1536 := (y 1).isLt
    have hn : (⟨(y 1).val / 128, by omega⟩ : Fin 12) ∈ ([11, 10, 9, 8, 7, 6, 5, 4, 3, 2, 1, 0] : List (Fin 12)) := by
      have : ∀ n : Fin 12, n ∈ ([11, 10, 9, 8, 7, 6, 5, 4, 3, 2, 1, 0] : List (Fin 12)) := by decide
      exact this _
    refine ⟨packPiece (gAt V c t) (wAt V c t) ⟨(y 1).val / 128, by omega⟩, List.mem_map.2 ⟨_, hn, rfl⟩, ?_⟩
    refine (Rect.mem_set_unit (inb := inbP ⟨(y 1).val / 128, by omega⟩)).2 fun a => ?_
    match a with
    | ⟨0, _⟩ => exact ⟨Nat.zero_le _, by show (y 0).val < 0 + 256; omega⟩
    | ⟨1, _⟩ => exact ⟨by show 128 * ((y 1).val / 128) ≤ (y 1).val; omega, by show (y 1).val < 128 * ((y 1).val / 128) + 128; omega⟩

/-- The weight and its scale, as the region finds them. -/
abbrev W (c : Dev nD) : Vec Ideal S16384x6144 .bf16 := V c main_arg1
abbrev G (c : Dev nD) : Vec Ideal S1x1 .f32 := V c main_v0

theorem idx0 (t : Fin cfg1.N) : win1_0.index t = ![0, 0] := by
  revert t; decide +kernel
theorem idx1 (t : Fin cfg1.N) : win1_1.index t = ![t.val, 0] := by
  revert t; decide +kernel
theorem idx2 (t : Fin cfg1.N) : win1_2.index t = ![t.val, 0] := by
  revert t; decide +kernel
theorem idx3 (t : Fin cfg1.N) : win1_3.index t = ![t.val, 0] := by
  revert t; decide +kernel

theorem covers2 : (cfg1.win 2).Covers :=
  (cfg1.win 2).covers_of_index_surj rfl (by decide) fun β => ⟨⟨(β 0).val, (β 0).isLt⟩, fun a => by
    have := idx2 ⟨(β 0).val, (β 0).isLt⟩
    show win1_2.index _ a = _
    rw [this]
    match a with
    | ⟨0, _⟩ => rfl
    | ⟨1, _⟩ => have h : (β 1).val < 1 := (β 1).isLt
                show 0 = (β 1).val; omega⟩

theorem covers3 : (cfg1.win 3).Covers :=
  (cfg1.win 3).covers_of_index_surj rfl (by decide) fun β => ⟨⟨(β 0).val, (β 0).isLt⟩, fun a => by
    have := idx3 ⟨(β 0).val, (β 0).isLt⟩
    show win1_3.index _ a = _
    rw [this]
    match a with
    | ⟨0, _⟩ => rfl
    | ⟨1, _⟩ => have h : (β 1).val < 1 := (β 1).isLt
                show 0 = (β 1).val; omega⟩

theorem gAt_val (c : Dev nD) (t : Fin cfg1.N) : gAt V c t = G V c (ix2 0 0) := by
  rw [gAt_eq]
  blk_ext [iblk, idx0]

/-- The codes of the weight. -/
theorem final2 (c : Dev nD) : (dats V 1 c).arrAt 2 cfg1.N
    = fun i : S16384x6144.Idx => tern (F := Ideal) (G V c (ix2 0 0)) (W V c i) := by
  refine (dats V 1 c).arrAt_eq_of_covers 2 _ covers2 fun t hf y => ?_
  blk_simp
  rw [after1_2]
  refine (codes_apply V c t y).trans ?_
  rw [gAt_val]
  refine congrArg (tern (F := Ideal) (G V c (ix2 0 0))) ?_
  show W V c ((win1_1.blk t).view.emb y) = W V c ((win1_2.blk t).view.emb y)
  refine congrArg (W V c) ?_
  blk_ext [idx1, idx2]

/-- The code at row `r`, column `k`, plus one. -/
abbrev code1 (c : Dev nD) (r : Fin 16384) (k : ℕ) (h : k < 6144) : BitVec 8 :=
  tern (F := Ideal) (G V c (ix2 0 0)) (W V c (ix2 r ⟨k, h⟩)) + 1#8

theorem field_block (c : Dev nD) (t : Fin cfg1.N) (r : Fin 256) (k : ℕ) (h : k < 6144) (R : Fin 16384) (K : ℕ) (H : K < 6144)
    (hR : R.val = 256 * t.val + r.val) (hK : K = k) : fieldAt (gAt V c t) (wAt V c t) r k h = code1 V c R K H := by
  subst hK
  unfold fieldAt
  rw [(field_cases _ _).1, gAt_val]
  refine congrArg (fun w => tern (F := Ideal) (G V c (ix2 0 0)) w + 1#8) ?_
  show W V c ((win1_1.blk t).view.emb (ix2 r ⟨K, h⟩)) = W V c (ix2 R ⟨K, H⟩)
  refine congrArg (W V c) ?_
  blk_ext [idx1]

/-- The packed codes: four adjacent columns in a byte. -/
theorem final3 (c : Dev nD) : (dats V 1 c).arrAt 3 cfg1.N
    = fun i : S16384x1536.Idx =>
        pack4 (code1 V c (i 0) (4 * (i 1).val) (by have : (i 1).val < 1536 := (i 1).isLt; omega))
          (code1 V c (i 0) (4 * (i 1).val + 1) (by have : (i 1).val < 1536 := (i 1).isLt; omega))
          (code1 V c (i 0) (4 * (i 1).val + 2) (by have : (i 1).val < 1536 := (i 1).isLt; omega))
          (code1 V c (i 0) (4 * (i 1).val + 3) (by have : (i 1).val < 1536 := (i 1).isLt; omega)) := by
  refine (dats V 1 c).arrAt_eq_of_covers 3 _ covers3 fun t hf y => ?_
  blk_simp
  rw [after1_3]
  refine (packed_apply V c t y).trans ?_
  have h1 : (y 1).val < 1536 := (y 1).isLt
  have hr : ((win1_3.blk t).view.emb y 0).val = 256 * t.val + (y 0).val := by
    blk_simp [idx3]
    omega
  have hc : win1_3.index t 1 * 1536 + (y 1).val = (y 1).val := by
    rw [idx3]
    exact (congrArg (· + (y 1).val) (Nat.zero_mul 1536)).trans (Nat.zero_add _)
  unfold packedAt
  rw [field_block V c t (y 0) _ _ _ _ (by rw [hc]; omega) hr (congrArg (4 * ·) hc), field_block V c t (y 0) _ _ _ _ (by rw [hc]; omega) hr (congrArg (4 * · + 1) hc),
    field_block V c t (y 0) _ _ _ _ (by rw [hc]; omega) hr (congrArg (4 * · + 2) hc), field_block V c t (y 0) _ _ _ _ (by rw [hc]; omega) hr (congrArg (4 * · + 3) hc)]

end Cert.KernelIdeal.Tern

end
-- ==== Proof.QuantValue.lean ====
/-
  The quantise launch's two arrays after the run, index by index: the row scales and the codes of the input array.
-/
module

public import proofs.«01_k».proof.Proof.QuantRegion
public import proofs.«01_k».proof.Proof.Scalars
public import Idealize.ShloMosaic.Lib.Pipeline.ValueKit
public import Idealize.ShloMosaic.Lib.Pipeline.Covers

@[expose] public section

set_option maxRecDepth 16384

noncomputable section

namespace Cert.KernelIdeal.Quant

open Cert.KernelIdeal Cert.KernelIdeal.Gen Cert.BitLinear
open Idealize.ShloMosaic Idealize.ShloMosaic.TcCoe

section
variable {F : FTy → Type} [FloatOps F]

theorem scale_tree (x : Vec F S128x16384 .bf16) (r : Fin 128) (u : Fin 1) :
    k2_pay1 x (ix2 r u) = scale (FloatOps.extf .f32 bitsLt_bf16_f32
      (multiReduction .maximumf [1] S128 (absf x) 0xFF80#16 reduces_S128x16384_S128 (.inr rfl) rfl (ix1 r))) := by
  pointwise [k2_pay1, scale]

theorem code_tree (x : Vec F S128x16384 .bf16) (r : Fin 128) (k : Fin 16384) :
    k2_pay2 x x (ix2 r k) = code (k2_pay1 x (ix2 r 0)) (FloatOps.extf .f32 bitsLt_bf16_f32 (x (ix2 r k))) := by
  pointwise [k2_pay2, code]
end

theorem max_apply (x : FVec Ideal S128x16384 .bf16) (r : Fin 128) :
    multiReduction .maximumf [1] S128 (absf x) 0xFF80#16 reduces_S128x16384_S128 (.inr rfl) rfl (ix1 r)
      = rowMax fun k : Fin 16384 => x (ix2 r k) := by
  unfold rowMax
  rw [← ofBits_negInf_bf16]
  pointwise
  rfl

theorem scale_apply (x : Vec Ideal S128x16384 .bf16) (y : S128x1.Idx) :
    k2_pay1 (F := Ideal) x y = scale (F := Ideal) (rowMax fun k : Fin 16384 => x (ix2 (y 0) k)) := by
  rw [eq_ix2 y]
  exact (scale_tree x (y 0) (y 1)).trans (congrArg (scale (F := Ideal)) (max_apply x (y 0)))

theorem code_apply (x : Vec Ideal S128x16384 .bf16) (y : S128x16384.Idx) :
    k2_pay2 (F := Ideal) x x y
      = code (F := Ideal) (scale (F := Ideal) (rowMax fun k : Fin 16384 => x (ix2 (y 0) k))) (x y) := by
  rw [eq_ix2 y]
  exact (code_tree x (y 0) (y 1)).trans
    (congrArg (fun s => code (F := Ideal) s (x (ix2 (y 0) (y 1)))) (scale_apply x (ix2 (y 0) 0)))

variable (V : (c : Dev nD) → (b : Ref sig .tc) → Buf (Elt Ideal) ((c : Thread nD τ).loc b))

/-- The input array, as the region finds it. -/
abbrev X (c : Dev nD) : Vec Ideal S8192x16384 .bf16 := V c main_v2

theorem idx0 (t : Fin cfg2.N) : win2_0.index t = ![t.val, 0] := by
  revert t; decide +kernel
theorem idx1 (t : Fin cfg2.N) : win2_1.index t = ![t.val, 0] := by
  revert t; decide +kernel
theorem idx2 (t : Fin cfg2.N) : win2_2.index t = ![t.val, 0] := by
  revert t; decide +kernel

theorem covers2 : (cfg2.win 2).Covers :=
  (cfg2.win 2).covers_of_index_surj rfl (by decide) fun β => ⟨⟨(β 0).val, (β 0).isLt⟩, fun a => by
    have := idx2 ⟨(β 0).val, (β 0).isLt⟩
    show win2_2.index _ a = _
    rw [this]
    match a with
    | ⟨0, _⟩ => rfl
    | ⟨1, _⟩ => have h : (β 1).val < 1 := (β 1).isLt
                show 0 = (β 1).val; omega⟩

theorem covers1 : (cfg2.win 1).Covers :=
  (cfg2.win 1).covers_of_index_surj rfl (by decide) fun β => ⟨⟨(β 0).val, (β 0).isLt⟩, fun a => by
    have := idx1 ⟨(β 0).val, (β 0).isLt⟩
    show win2_1.index _ a = _
    rw [this]
    match a with
    | ⟨0, _⟩ => rfl
    | ⟨1, _⟩ => have h : (β 1).val < 1 := (β 1).isLt
                show 0 = (β 1).val; omega⟩

theorem final2 (c : Dev nD) : (dats V 2 c).arrAt 2 cfg2.N
    = fun i : S8192x1.Idx => scale (F := Ideal) (rowMax fun k : Fin 16384 => X V c (ix2 (i 0) k)) := by
  refine (dats V 2 c).arrAt_eq_of_covers 2 _ covers2 fun t hf y => ?_
  blk_simp
  rw [after2_2]
  unfold outsAt2
  frame_out
  refine (scale_apply _ y).trans ?_
  refine congrArg (fun f => scale (F := Ideal) (rowMax f)) (funext fun k => ?_)
  blk_ext [iblk, idx0, idx2]

theorem final1 (c : Dev nD) : (dats V 2 c).arrAt 1 cfg2.N
    = fun i : S8192x16384.Idx => code (F := Ideal) (scale (F := Ideal) (rowMax fun k : Fin 16384 => X V c (ix2 (i 0) k))) (X V c i) := by
  refine (dats V 2 c).arrAt_eq_of_covers 1 _ covers1 fun t hf y => ?_
  blk_simp
  rw [after2_1]
  unfold outsAt2
  frame_out
  refine (code_apply _ y).trans ?_
  refine congrArg₂ (fun f x => code (F := Ideal) (scale (F := Ideal) (rowMax f)) x) (funext fun k => ?_) ?_
  · blk_ext [iblk, idx0, idx1]
  · blk_ext [iblk, idx0, idx1]

end Cert.KernelIdeal.Quant

end
-- ==== Proof.MatmulStep.lean ====
/-
  One grid point of the matmul launch: what the accumulator holds after it, quadrant by quadrant, over what it held before.
-/
module

public import proofs.«01_k».proof.Proof.MatmulRegion
public import Idealize.ShloMosaic.Lib.Pointwise
public import Idealize.ShloMosaic.Lib.Pipeline.ValueKit
public import Idealize.ShloMosaic.Lib.Pipeline.ReadBack

@[expose] public section

set_option maxRecDepth 16384
set_option maxHeartbeats 1000000

noncomputable section

namespace Cert.KernelIdeal.Matmul

open Cert.KernelIdeal Cert.KernelIdeal.Gen
open Idealize.ShloMosaic Idealize.ShloMosaic.TcCoe

variable {F : FTy → Type} [FloatOps F]

/-! The quadrants of the accumulator, of the code block and of the ternary block. -/

abbrev q00 : Rect S2048x2048 := Rect.unit (s := S2048x2048) ![0, 0] ![1024, 1024] inb_S2048x2048_S1024x1024_0_0
abbrev q01 : Rect S2048x2048 := Rect.unit (s := S2048x2048) ![0, 1024] ![1024, 1024] inb_S2048x2048_S1024x1024_0_1024
abbrev q10 : Rect S2048x2048 := Rect.unit (s := S2048x2048) ![1024, 0] ![1024, 1024] inb_S2048x2048_S1024x1024_1024_0
abbrev q11 : Rect S2048x2048 := Rect.unit (s := S2048x2048) ![1024, 1024] ![1024, 1024] inb_S2048x2048_S1024x1024_1024_1024

/-! The quadrants of the code block `X` (half the rows, half the columns) and of the ternary block `T`, as numbers. -/

abbrev x00 (X : IVec S2048x1024 8) : FVec F S1024x512 .bf16 :=
  sitofp .bf16 (View.ld (Val := Elt F) (e' := .i8) X (Rect.unit (s := S2048x1024) ![0, 0] ![1024, 512] inb_S2048x1024_S1024x512_0_0))
abbrev x01 (X : IVec S2048x1024 8) : FVec F S1024x512 .bf16 :=
  sitofp .bf16 (View.ld (Val := Elt F) (e' := .i8) X (Rect.unit (s := S2048x1024) ![0, 512] ![1024, 512] inb_S2048x1024_S1024x512_0_512))
abbrev x10 (X : IVec S2048x1024 8) : FVec F S1024x512 .bf16 :=
  sitofp .bf16 (View.ld (Val := Elt F) (e' := .i8) X (Rect.unit (s := S2048x1024) ![1024, 0] ![1024, 512] inb_S2048x1024_S1024x512_1024_0))
abbrev x11 (X : IVec S2048x1024 8) : FVec F S1024x512 .bf16 :=
  sitofp .bf16 (View.ld (Val := Elt F) (e' := .i8) X (Rect.unit (s := S2048x1024) ![1024, 512] ![1024, 512] inb_S2048x1024_S1024x512_1024_512))

abbrev t00 (T : IVec S1024x2048 8) : FVec F S512x1024 .bf16 :=
  sitofp .bf16 (View.ld (Val := Elt F) (e' := .i8) T (Rect.unit (s := S1024x2048) ![0, 0] ![512, 1024] inb_S1024x2048_S512x1024_0_0))
abbrev t01 (T : IVec S1024x2048 8) : FVec F S512x1024 .bf16 :=
  sitofp .bf16 (View.ld (Val := Elt F) (e' := .i8) T (Rect.unit (s := S1024x2048) ![0, 1024] ![512, 1024] inb_S1024x2048_S512x1024_0_1024))
abbrev t10 (T : IVec S1024x2048 8) : FVec F S512x1024 .bf16 :=
  sitofp .bf16 (View.ld (Val := Elt F) (e' := .i8) T (Rect.unit (s := S1024x2048) ![512, 0] ![512, 1024] inb_S1024x2048_S512x1024_512_0))
abbrev t11 (T : IVec S1024x2048 8) : FVec F S512x1024 .bf16 :=
  sitofp .bf16 (View.ld (Val := Elt F) (e' := .i8) T (Rect.unit (s := S1024x2048) ![512, 1024] ![512, 1024] inb_S1024x2048_S512x1024_512_1024))

/-- One product of half blocks, at an entry. -/
abbrev mm (L : FVec F S1024x512 .bf16) (R : FVec F S512x1024 .bf16) (r s : Fin 1024) : F .f32 :=
  matmul dot_S1024x512_S512x1024_S1024x1024_1_0_0_1_n_n none L R (constant S1024x1024 .f32 0x00000000#32) (ix2 r s)

/-- `out` is the accumulator `p` after one grid point's seven products of the blocks `X` and `T`, each added into, or
    subtracted from, the quadrants it belongs to. -/
structure IsStep (X : IVec S2048x1024 8) (T : IVec S1024x2048 8) (p out : Vec F S2048x2048 .f32) : Prop where
  h00 : ∀ r s : Fin 1024, out (q00.toLoadRect.idx (ix2 r s : S1024x1024.Idx)) =
    FloatOps.addf (FloatOps.subf (FloatOps.addf (FloatOps.addf (p (q00.toLoadRect.idx (ix2 r s : S1024x1024.Idx)))
      (mm (x11 X) (subf (t10 T) (t00 T)) r s))
      (mm (addf (x00 X) (x11 X)) (addf (t00 T) (t11 T)) r s))
      (mm (addf (x00 X) (x01 X)) (t11 T) r s))
      (mm (subf (x01 X) (x11 X)) (addf (t10 T) (t11 T)) r s)
  h01 : ∀ r s : Fin 1024, out (q01.toLoadRect.idx (ix2 r s : S1024x1024.Idx)) =
    FloatOps.addf (FloatOps.addf (p (q01.toLoadRect.idx (ix2 r s : S1024x1024.Idx)))
      (mm (x00 X) (subf (t01 T) (t11 T)) r s))
      (mm (addf (x00 X) (x01 X)) (t11 T) r s)
  h10 : ∀ r s : Fin 1024, out (q10.toLoadRect.idx (ix2 r s : S1024x1024.Idx)) =
    FloatOps.addf (FloatOps.addf (p (q10.toLoadRect.idx (ix2 r s : S1024x1024.Idx)))
      (mm (x11 X) (subf (t10 T) (t00 T)) r s))
      (mm (addf (x10 X) (x11 X)) (t00 T) r s)
  h11 : ∀ r s : Fin 1024, out (q11.toLoadRect.idx (ix2 r s : S1024x1024.Idx)) =
    FloatOps.addf (FloatOps.subf (FloatOps.addf (FloatOps.addf (p (q11.toLoadRect.idx (ix2 r s : S1024x1024.Idx)))
      (mm (x00 X) (subf (t01 T) (t11 T)) r s))
      (mm (addf (x00 X) (x11 X)) (addf (t00 T) (t11 T)) r s))
      (mm (addf (x10 X) (x11 X)) (t00 T) r s))
      (mm (subf (x10 X) (x00 X)) (addf (t00 T) (t01 T)) r s)

theorem canon_idx {sig : RefSig} {κ : Kind} {sp : Space} {s : Shape} {e : EltTy} {Val : EltTy → Type} [∀ e, Nonempty (Val e)]
    (v : View sig κ sp s e) (L : List (View.Piece Val s e)) (B : LoadRect s) (x : B.shape.Idx) :
    View.canon L (B.idx x) = v.readCov L B x :=
  (congrFun (View.readCov_eq_canon' v L B) x).symm

variable (V : (c : Dev nD) → (b : Ref sig .tc) → Buf (Elt F) ((c : Thread nD τ).loc b))

theorem step_A (c : Dev nD) (t : Fin cfg3.N) (h0 : t.val % 16 = 0) (h1 : ¬t.val % 16 = 15) :
    IsStep (iblk V c 1 t) (iblk V c 2 t) k3_pay3
      (outsAt3 V c t.val t.isLt).2 := by
  rw [outsAt3_A V c t h0 h1]
  dsimp only
  constructor
  all_goals
    intro r s
    frame_open
    rw [View.read_writes_junk_eq_canon, canon_idx (View.whole cc3_scratch0)]
    simp (disch := decide) only [↓ View.readCov_skip, ↓ View.readCov_cons_toLoadRect, ↓ View.readCov_fill]
    frame_out
    pointwise [k3_pay1, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38]

theorem step_B (c : Dev nD) (t : Fin cfg3.N) (h0 : ¬t.val % 16 = 0) (h1 : ¬t.val % 16 = 15) :
    IsStep (iblk V c 1 t) (iblk V c 2 t) (outsAt3 V c (t.val - 1) (Nat.lt_of_le_of_lt (Nat.sub_le _ _) t.isLt)).2
      (outsAt3 V c t.val t.isLt).2 := by
  rw [outsAt3_B V c t h0 h1]
  dsimp only
  constructor
  all_goals
    intro r s
    frame_open
    rw [View.read_writes_junk_eq_canon, canon_idx (View.whole cc3_scratch0)]
    simp (disch := decide) only [↓ View.readCov_skip, ↓ View.readCov_cons_toLoadRect, ↓ View.readCov_fill]
    frame_out
    simp only [read_unread_whole]
    pointwise [k3_pay1, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38]

theorem step_C (c : Dev nD) (t : Fin cfg3.N) (h0 : ¬t.val % 16 = 0) (h1 : t.val % 16 = 15) :
    IsStep (iblk V c 1 t) (iblk V c 2 t) (outsAt3 V c (t.val - 1) (Nat.lt_of_le_of_lt (Nat.sub_le _ _) t.isLt)).2
      (outsAt3 V c t.val t.isLt).2 := by
  rw [outsAt3_C V c t h0 h1]
  dsimp only
  constructor
  all_goals
    intro r s
    frame_open
    rw [View.read_writes_junk_eq_canon, canon_idx (View.whole cc3_scratch0)]
    simp (disch := decide) only [↓ View.readCov_skip, ↓ View.readCov_cons_toLoadRect, ↓ View.readCov_fill]
    frame_out
    simp only [read_unread_whole]
    pointwise [k3_pay1, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38]

theorem pay2_congr {a a' : Vec F S2048x2048 .f32} {b b' : Vec F S2048x1 .f32} {g g' : Elt F .f32} (ha : a = a') (hb : b = b')
    (hg : g = g') : k3_pay2 a b g = k3_pay2 a' b' g' := by
  rw [ha, hb, hg]

/-- Pieces read back over the whole array are the pieces' own contents. -/
theorem readback (L : List (View.Piece (Elt F) S2048x2048 .f32)) (inb) :
    scM3_0.view.readCov L (Rect.unit (s := S2048x2048) ![0, 0] S2048x2048.size inb).toLoadRect
      = VS3_0.read (Elt F) (VS3_0.writes (Elt F) VS3_0.junk L) := by
  rw [View.readCov_eq_canon', View.read_writes_junk_eq_canon]
  exact View.ld_unit_lit inb (View.canon L) (by decide)

theorem out_C (c : Dev nD) (t : Fin cfg3.N) (h0 : ¬t.val % 16 = 0) (h1 : t.val % 16 = 15) :
    (outsAt3 V c t.val t.isLt).1 = k3_pay2 (outsAt3 V c t.val t.isLt).2 (iblk V c 3 t) ((iblk V c 0 t : Vec F S1x1 .f32) (ix2 0 0)) := by
  rw [outsAt3_C V c t h0 h1]
  dsimp only
  unfold out3_C_4
  refine (View.read_writes_junk_eq_canon _ _).trans ?_
  unfold sout3_C_0
  refine (View.canon_cons_unit_lit _ _ _ (by decide)).trans ?_
  refine pay2_congr (readback _ _) ?_ ?_
  · frame_out
  · frame_out
    refine congrArg (iblk V c 0 t) (funext fun a => ?_)
    match a with
    | ⟨0, _⟩ => exact Subsingleton.elim (α := Fin 1) _ _
    | ⟨1, _⟩ => exact Subsingleton.elim (α := Fin 1) _ _

end Cert.KernelIdeal.Matmul

end
-- ==== Proof.Strassen.lean ====
/-
  The seven-product rule for a 2 by 2 block product, entry by entry, over extended reals whose factors are real.
-/
module

public import Idealize.ShloMosaic.Lib.Pointwise

@[expose] public section

noncomputable section

namespace Cert.BitLinear

theorem coe_sum' {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section
variable {n : ℕ} (a00 a01 a10 a11 b00 b01 b10 b11 : Fin n → ℝ) (acc : EReal)

/-- Upper left: products 2, 3, 5 (subtracted) and 7. -/
theorem strassen00 :
    acc + (∑ q, (a11 q : EReal) * ((b10 q : EReal) - (b00 q : EReal)))
        + (∑ q, ((a00 q : EReal) + (a11 q : EReal)) * ((b00 q : EReal) + (b11 q : EReal)))
        - (∑ q, ((a00 q : EReal) + (a01 q : EReal)) * (b11 q : EReal))
        + (∑ q, ((a01 q : EReal) - (a11 q : EReal)) * ((b10 q : EReal) + (b11 q : EReal)))
      = acc + ((∑ q, (a00 q : EReal) * (b00 q : EReal)) + ∑ q, (a01 q : EReal) * (b10 q : EReal)) := by
  simp only [← EReal.coe_add, ← EReal.coe_sub, ← EReal.coe_mul, ← coe_sum', sub_eq_add_neg, ← EReal.coe_neg, add_assoc]
  refine congrArg (fun x : ℝ => acc + (x : EReal)) ?_
  simp only [← Finset.sum_add_distrib, ← Finset.sum_neg_distrib]
  exact Finset.sum_congr rfl fun q _ => by ring

/-- Upper right: products 1 and 5. -/
theorem strassen01 :
    acc + (∑ q, (a00 q : EReal) * ((b01 q : EReal) - (b11 q : EReal)))
        + (∑ q, ((a00 q : EReal) + (a01 q : EReal)) * (b11 q : EReal))
      = acc + ((∑ q, (a00 q : EReal) * (b01 q : EReal)) + ∑ q, (a01 q : EReal) * (b11 q : EReal)) := by
  simp only [← EReal.coe_add, ← EReal.coe_sub, ← EReal.coe_mul, ← coe_sum', sub_eq_add_neg, ← EReal.coe_neg, add_assoc]
  refine congrArg (fun x : ℝ => acc + (x : EReal)) ?_
  simp only [← Finset.sum_add_distrib, ← Finset.sum_neg_distrib]
  exact Finset.sum_congr rfl fun q _ => by ring

/-- Lower left: products 2 and 4. -/
theorem strassen10 :
    acc + (∑ q, (a11 q : EReal) * ((b10 q : EReal) - (b00 q : EReal)))
        + (∑ q, ((a10 q : EReal) + (a11 q : EReal)) * (b00 q : EReal))
      = acc + ((∑ q, (a10 q : EReal) * (b00 q : EReal)) + ∑ q, (a11 q : EReal) * (b10 q : EReal)) := by
  simp only [← EReal.coe_add, ← EReal.coe_sub, ← EReal.coe_mul, ← coe_sum', sub_eq_add_neg, ← EReal.coe_neg, add_assoc]
  refine congrArg (fun x : ℝ => acc + (x : EReal)) ?_
  simp only [← Finset.sum_add_distrib, ← Finset.sum_neg_distrib]
  exact Finset.sum_congr rfl fun q _ => by ring

/-- Lower right: products 1, 3, 4 (subtracted) and 6. -/
theorem strassen11 :
    acc + (∑ q, (a00 q : EReal) * ((b01 q : EReal) - (b11 q : EReal)))
        + (∑ q, ((a00 q : EReal) + (a11 q : EReal)) * ((b00 q : EReal) + (b11 q : EReal)))
        - (∑ q, ((a10 q : EReal) + (a11 q : EReal)) * (b00 q : EReal))
        + (∑ q, ((a10 q : EReal) - (a00 q : EReal)) * ((b00 q : EReal) + (b01 q : EReal)))
      = acc + ((∑ q, (a10 q : EReal) * (b01 q : EReal)) + ∑ q, (a11 q : EReal) * (b11 q : EReal)) := by
  simp only [← EReal.coe_add, ← EReal.coe_sub, ← EReal.coe_mul, ← coe_sum', sub_eq_add_neg, ← EReal.coe_neg, add_assoc]
  refine congrArg (fun x : ℝ => acc + (x : EReal)) ?_
  simp only [← Finset.sum_add_distrib, ← Finset.sum_neg_distrib]
  exact Finset.sum_congr rfl fun q _ => by ring

end

end Cert.BitLinear

end
-- ==== Proof.MatmulValue.lean ====
/-
  The matmul launch's array after the run, index by index: the product of codes and ternary weights, scaled.
-/
module

public import proofs.«01_k».proof.Proof.MatmulStep
public import proofs.«01_k».proof.Proof.Strassen
public import proofs.«01_k».proof.Proof.Scalars
public import Idealize.ShloMosaic.Lib.Pipeline.Covers

@[expose] public section

set_option maxRecDepth 16384
set_option maxHeartbeats 1000000

noncomputable section

namespace Cert.KernelIdeal.Matmul

open Cert.KernelIdeal Cert.KernelIdeal.Gen Cert.BitLinear
open Idealize.ShloMosaic Idealize.ShloMosaic.TcCoe

/-! ## Half-block products over the reals -/

theorem mm_apply (L : FVec Ideal S1024x512 .bf16) (R : FVec Ideal S512x1024 .bf16) (r s : Fin 1024) :
    mm (F := Ideal) L R r s = ∑ q : Fin 512, (L (ix2 r q) : EReal) * R (ix2 q s) := by
  unfold mm
  pointwise

section
variable (X : IVec S2048x1024 8) (T : IVec S1024x2048 8)

/-- The code block's entries as real numbers. -/
def xr (i : Fin 2048) (k : Fin 1024) : ℝ := ((X (ix2 i k)).toInt : ℝ)
/-- The ternary block's entries as real numbers. -/
def tr (k : Fin 1024) (j : Fin 2048) : ℝ := ((T (ix2 k j)).toInt : ℝ)

/-- The first and the second half of an axis of 1024. -/
abbrev lo (q : Fin 512) : Fin 1024 := ⟨q.val, by omega⟩
abbrev hi (q : Fin 512) : Fin 1024 := ⟨512 + q.val, by omega⟩
/-- The first and the second half of an axis of 2048. -/
abbrev Lo (q : Fin 1024) : Fin 2048 := ⟨q.val, by omega⟩
abbrev Hi (q : Fin 1024) : Fin 2048 := ⟨1024 + q.val, by omega⟩

theorem sum_halves (f : Fin 1024 → EReal) : (∑ q : Fin 512, f (lo q)) + (∑ q : Fin 512, f (hi q)) = ∑ k : Fin 1024, f k :=
  (Fin.sum_univ_add (a := 512) (b := 512) f).symm

/-- The place of a two-axis rectangle's entry. -/
theorem unit_ix2 {n0 n1 m0 m1 : ℕ} {o0 o1 : ℕ} (inb) (i : Fin m0) (k : Fin m1) (i' : Fin n0) (k' : Fin n1)
    (hi : i'.val = o0 + i.val) (hk : k'.val = o1 + k.val) :
    (Rect.unit (s := ⟨2, ![n0, n1]⟩) ![o0, o1] ![m0, m1] inb).idx (ix2 i k) = ix2 i' k' := by
  refine funext fun a => Fin.ext ?_
  match a with
  | ⟨0, _⟩ => exact (Rect.idx_unit_val _ _ _ _ _).trans hi.symm
  | ⟨1, _⟩ => exact (Rect.idx_unit_val _ _ _ _ _).trans hk.symm

theorem rd_x {X : IVec S2048x1024 8} {i j : S2048x1024.Idx} (h : X i = X j) : (((X i).toInt : ℝ) : EReal) = (((X j).toInt : ℝ) : EReal) := by
  rw [h]
theorem rd_t {T : IVec S1024x2048 8} {i j : S1024x2048.Idx} (h : T i = T j) : (((T i).toInt : ℝ) : EReal) = (((T j).toInt : ℝ) : EReal) := by
  rw [h]

theorem x00_apply (r : Fin 1024) (q : Fin 512) : (x00 (F := Ideal) X (ix2 r q) : EReal) = (xr X (Lo r) (lo q) : EReal) :=
  rd_x (congrArg X (unit_ix2 _ _ _ _ _ (by simp) (by simp)))
theorem x01_apply (r : Fin 1024) (q : Fin 512) : (x01 (F := Ideal) X (ix2 r q) : EReal) = (xr X (Lo r) (hi q) : EReal) :=
  rd_x (congrArg X (unit_ix2 _ _ _ _ _ (by simp) (by simp)))
theorem x10_apply (r : Fin 1024) (q : Fin 512) : (x10 (F := Ideal) X (ix2 r q) : EReal) = (xr X (Hi r) (lo q) : EReal) :=
  rd_x (congrArg X (unit_ix2 _ _ _ _ _ (by simp) (by simp)))
theorem x11_apply (r : Fin 1024) (q : Fin 512) : (x11 (F := Ideal) X (ix2 r q) : EReal) = (xr X (Hi r) (hi q) : EReal) :=
  rd_x (congrArg X (unit_ix2 _ _ _ _ _ (by simp) (by simp)))
theorem t00_apply (q : Fin 512) (s : Fin 1024) : (t00 (F := Ideal) T (ix2 q s) : EReal) = (tr T (lo q) (Lo s) : EReal) :=
  rd_t (congrArg T (unit_ix2 _ _ _ _ _ (by simp) (by simp)))
theorem t01_apply (q : Fin 512) (s : Fin 1024) : (t01 (F := Ideal) T (ix2 q s) : EReal) = (tr T (lo q) (Hi s) : EReal) :=
  rd_t (congrArg T (unit_ix2 _ _ _ _ _ (by simp) (by simp)))
theorem t10_apply (q : Fin 512) (s : Fin 1024) : (t10 (F := Ideal) T (ix2 q s) : EReal) = (tr T (hi q) (Lo s) : EReal) :=
  rd_t (congrArg T (unit_ix2 _ _ _ _ _ (by simp) (by simp)))
theorem t11_apply (q : Fin 512) (s : Fin 1024) : (t11 (F := Ideal) T (ix2 q s) : EReal) = (tr T (hi q) (Hi s) : EReal) :=
  rd_t (congrArg T (unit_ix2 _ _ _ _ _ (by simp) (by simp)))

theorem addf_at {s : Shape} (a b : FVec Ideal s .bf16) (i : s.Idx) : (addf a b i : EReal) = (a i : EReal) + (b i : EReal) := rfl
theorem subf_at {s : Shape} (a b : FVec Ideal s .bf16) (i : s.Idx) : (subf a b i : EReal) = (a i : EReal) - (b i : EReal) := rfl

/-- What one grid point adds to the accumulator's entry: the inner product over the block's 1024 columns. -/
def inner (y : S2048x2048.Idx) : EReal := ∑ k : Fin 1024, (xr X (y 0) k : EReal) * (tr T k (y 1) : EReal)

end

theorem idx_q00 (r s : Fin 1024) : q00.toLoadRect.idx (ix2 r s : S1024x1024.Idx) = ix2 (Lo r) (Lo s) := unit_ix2 _ _ _ _ _ (by simp) (by simp)
theorem idx_q01 (r s : Fin 1024) : q01.toLoadRect.idx (ix2 r s : S1024x1024.Idx) = ix2 (Lo r) (Hi s) := unit_ix2 _ _ _ _ _ (by simp) (by simp)
theorem idx_q10 (r s : Fin 1024) : q10.toLoadRect.idx (ix2 r s : S1024x1024.Idx) = ix2 (Hi r) (Lo s) := unit_ix2 _ _ _ _ _ (by simp) (by simp)
theorem idx_q11 (r s : Fin 1024) : q11.toLoadRect.idx (ix2 r s : S1024x1024.Idx) = ix2 (Hi r) (Hi s) := unit_ix2 _ _ _ _ _ (by simp) (by simp)

/-- One grid point over the reals: every entry gains its inner product. -/
theorem IsStep.apply {X : IVec S2048x1024 8} {T : IVec S1024x2048 8} {p out : Vec Ideal S2048x2048 .f32} (h : IsStep (F := Ideal) X T p out)
    (y : S2048x2048.Idx) : (out y : EReal) = (p y : EReal) + inner X T y := by
  have e00 : ∀ r s : Fin 1024, (out (ix2 (Lo r) (Lo s)) : EReal) = p (ix2 (Lo r) (Lo s)) + inner X T (ix2 (Lo r) (Lo s)) := fun r s => by
    have e := h.h00 r s
    rw [idx_q00] at e
    refine e.trans ?_
    simp only [mm_apply, addf_at, subf_at, x00_apply, x01_apply, x10_apply, x11_apply, t00_apply, t01_apply, t10_apply, t11_apply]
    refine (strassen00 (fun q => xr X (Lo r) (lo q)) (fun q => xr X (Lo r) (hi q)) (fun q => xr X (Hi r) (hi q)) (fun q => tr T (lo q) (Lo s))
      (fun q => tr T (hi q) (Lo s)) (fun q => tr T (hi q) (Hi s)) _).trans ?_
    exact congrArg (p (ix2 (Lo r) (Lo s)) + ·) (sum_halves fun k => (xr X (Lo r) k : EReal) * (tr T k (Lo s) : EReal))
  have e01 : ∀ r s : Fin 1024, (out (ix2 (Lo r) (Hi s)) : EReal) = p (ix2 (Lo r) (Hi s)) + inner X T (ix2 (Lo r) (Hi s)) := fun r s => by
    have e := h.h01 r s
    rw [idx_q01] at e
    refine e.trans ?_
    simp only [mm_apply, addf_at, subf_at, x00_apply, x01_apply, x10_apply, x11_apply, t00_apply, t01_apply, t10_apply, t11_apply]
    refine (strassen01 (fun q => xr X (Lo r) (lo q)) (fun q => xr X (Lo r) (hi q)) (fun q => tr T (lo q) (Hi s))
      (fun q => tr T (hi q) (Hi s)) _).trans ?_
    exact congrArg (p (ix2 (Lo r) (Hi s)) + ·) (sum_halves fun k => (xr X (Lo r) k : EReal) * (tr T k (Hi s) : EReal))
  have e10 : ∀ r s : Fin 1024, (out (ix2 (Hi r) (Lo s)) : EReal) = p (ix2 (Hi r) (Lo s)) + inner X T (ix2 (Hi r) (Lo s)) := fun r s => by
    have e := h.h10 r s
    rw [idx_q10] at e
    refine e.trans ?_
    simp only [mm_apply, addf_at, subf_at, x00_apply, x01_apply, x10_apply, x11_apply, t00_apply, t01_apply, t10_apply, t11_apply]
    refine (strassen10 (fun q => xr X (Hi r) (lo q)) (fun q => xr X (Hi r) (hi q)) (fun q => tr T (lo q) (Lo s))
      (fun q => tr T (hi q) (Lo s)) _).trans ?_
    exact congrArg (p (ix2 (Hi r) (Lo s)) + ·) (sum_halves fun k => (xr X (Hi r) k : EReal) * (tr T k (Lo s) : EReal))
  have e11 : ∀ r s : Fin 1024, (out (ix2 (Hi r) (Hi s)) : EReal) = p (ix2 (Hi r) (Hi s)) + inner X T (ix2 (Hi r) (Hi s)) := fun r s => by
    have e := h.h11 r s
    rw [idx_q11] at e
    refine e.trans ?_
    simp only [mm_apply, addf_at, subf_at, x00_apply, x01_apply, x10_apply, x11_apply, t00_apply, t01_apply, t10_apply, t11_apply]
    refine (strassen11 (fun q => xr X (Lo r) (lo q)) (fun q => xr X (Hi r) (lo q)) (fun q => xr X (Hi r) (hi q)) (fun q => tr T (lo q) (Lo s))
      (fun q => tr T (lo q) (Hi s)) (fun q => tr T (hi q) (Hi s)) _).trans ?_
    exact congrArg (p (ix2 (Hi r) (Hi s)) + ·) (sum_halves fun k => (xr X (Hi r) k : EReal) * (tr T k (Hi s) : EReal))
  rw [eq_ix2 y]
  have hr : (∃ r, y 0 = Lo r) ∨ ∃ r, y 0 = Hi r := by
    have : (y 0).val < 2048 := (y 0).isLt
    by_cases c : (y 0).val < 1024
    · exact .inl ⟨⟨(y 0).val, c⟩, rfl⟩
    · exact .inr ⟨⟨(y 0).val - 1024, by omega⟩, Fin.ext (by show (y 0).val = 1024 + ((y 0).val - 1024); omega)⟩
  have hs : (∃ s, y 1 = Lo s) ∨ ∃ s, y 1 = Hi s := by
    have : (y 1).val < 2048 := (y 1).isLt
    by_cases c : (y 1).val < 1024
    · exact .inl ⟨⟨(y 1).val, c⟩, rfl⟩
    · exact .inr ⟨⟨(y 1).val - 1024, by omega⟩, Fin.ext (by show (y 1).val = 1024 + ((y 1).val - 1024); omega)⟩
  obtain ⟨r, hr⟩ | ⟨r, hr⟩ := hr <;> obtain ⟨s, hs⟩ | ⟨s, hs⟩ := hs <;> rw [hr, hs]
  · exact e00 r s
  · exact e01 r s
  · exact e10 r s
  · exact e11 r s

/-! ## The launch -/

section
variable {F : FTy → Type} [FloatOps F]
theorem zero_tree (r k : Fin 2048) : k3_pay3 (F := F) (ix2 r k) = Scalar.ofBits .f32 0x00000000#32 := by
  pointwise [k3_pay3]

theorem out_tree (a : Vec F S2048x2048 .f32) (b : Vec F S2048x1 .f32) (g : Elt F .f32) (r s : Fin 2048) :
    k3_pay2 a b g (ix2 r s) = FloatOps.truncf .bf16 bitsLt_bf16_f32 (FloatOps.mulf (FloatOps.mulf (a (ix2 r s)) (b (ix2 r 0))) g) := by
  pointwise [k3_pay2]
end

theorem zero_apply (y : S2048x2048.Idx) : (k3_pay3 (F := Ideal) y : EReal) = 0 := by
  rw [eq_ix2 y]
  refine (zero_tree _ _).trans ?_
  pointwise

theorem out_apply (a : Vec Ideal S2048x2048 .f32) (b : Vec Ideal S2048x1 .f32) (g : EReal) (y : S2048x2048.Idx) :
    k3_pay2 (F := Ideal) a b g y = (a y : EReal) * (b (ix2 (y 0) 0) : EReal) * g := by
  rw [eq_ix2 y]
  exact out_tree a b g (y 0) (y 1)

variable (V : (c : Dev nD) → (b : Ref sig .tc) → Buf (Elt Ideal) ((c : Thread nD τ).loc b))

/-- The arrays the launch reads: the codes, the ternary weights, the row scales and the weight scale. -/
abbrev C (c : Dev nD) : IVec S8192x16384 8 := V c main_v3_0
abbrev T (c : Dev nD) : IVec S16384x6144 8 := V c main_v1_0
abbrev S (c : Dev nD) : Vec Ideal S8192x1 .f32 := V c main_v3_1
abbrev G (c : Dev nD) : Vec Ideal S1x1 .f32 := V c main_v0

theorem idx0 (t : Fin cfg3.N) : win3_0.index t = ![0, 0] := by
  revert t; decide +kernel
theorem idx1 (t : Fin cfg3.N) : win3_1.index t = ![t.val / 48, t.val % 16] := by
  revert t; decide +kernel
theorem idx2 (t : Fin cfg3.N) : win3_2.index t = ![t.val % 16, t.val / 16 % 3] := by
  revert t; decide +kernel
theorem idx3 (t : Fin cfg3.N) : win3_3.index t = ![t.val / 48, 0] := by
  revert t; decide +kernel
theorem idx4 (t : Fin cfg3.N) : win3_4.index t = ![t.val / 48, t.val / 16 % 3] := by
  revert t; decide +kernel
theorem flush4 (t : Fin cfg3.N) : win3_4.flush t = true → t.val % 16 = 15 := by
  revert t; decide +kernel

theorem N192 (t : Fin cfg3.N) : t.val < 192 := lt_of_lt_of_eq t.isLt N_3

theorem acc_apply (c : Dev nD) (t : Fin cfg3.N) (ht : t.val % 16 = 15) (y : S2048x2048.Idx) :
    ((outsAt3 V c t.val t.isLt).2 y : EReal) = ∑ s : Fin 16, inner (iblk V c 1 ⟨16 * (t.val / 16) + s.val, lt_of_lt_of_eq (by have := N192 t; omega) N_3.symm⟩)
      (iblk V c 2 ⟨16 * (t.val / 16) + s.val, lt_of_lt_of_eq (by have := N192 t; omega) N_3.symm⟩) y := by
  refine (Pipeline.eq_sum_fin_of_reset_step_apply_of_flush (fun n h => (outsAt3 V c n h).2) 16 (fun _ => (0 : EReal))
    (fun t y => inner (iblk V c 1 t) (iblk V c 2 t) y) ?_ ?_ t ht y).trans (zero_add _)
  · intro t h y
    exact ((step_A V c t h (by omega)).apply y).trans (congrArg (· + inner (iblk V c 1 t) (iblk V c 2 t) y) (zero_apply y))
  · intro t h y
    by_cases h1 : t.val % 16 = 15
    · exact (step_C V c t h h1).apply y
    · exact (step_B V c t h h1).apply y

/-- The launch's result at an index. -/
def Y (c : Dev nD) (i : S8192x6144.Idx) : EReal :=
  (∑ k : Fin 16384, val (C V c (ix2 (i 0) k)) * val (T V c (ix2 k (i 1)))) * (S V c (ix2 (i 0) 0) : EReal) * (G V c (ix2 0 0) : EReal)

theorem covers4 : (cfg3.win 4).Covers :=
  (cfg3.win 4).covers_of_index_surj rfl (by decide) fun β => ⟨⟨((β 0).val * 3 + (β 1).val) * 16 + 15, by
      have h0 : (β 0).val < 4 := (β 0).isLt
      have h1 : (β 1).val < 3 := (β 1).isLt
      exact lt_of_lt_of_eq (by omega) N_3.symm⟩, fun a => by
    have h0 : (β 0).val < 4 := (β 0).isLt
    have h1 : (β 1).val < 3 := (β 1).isLt
    have := idx4 ⟨((β 0).val * 3 + (β 1).val) * 16 + 15, lt_of_lt_of_eq (by omega) N_3.symm⟩
    show win3_4.index _ a = _
    rw [this]
    match a with
    | ⟨0, _⟩ => show _ / 48 = (β 0).val; dsimp only; omega
    | ⟨1, _⟩ => show _ / 16 % 3 = (β 1).val; dsimp only; omega⟩

theorem final4 (c : Dev nD) : (dats V 3 c).arrAt 4 cfg3.N = fun i : S8192x6144.Idx => Y V c i := by
  refine (dats V 3 c).arrAt_eq_of_covers 4 _ covers4 fun t hf y => ?_
  have ht : t.val % 16 = 15 := flush4 t hf
  have hN := N192 t
  blk_simp
  rw [after3_4]
  rw [out_C V c t (by omega) ht]
  refine (out_apply _ _ _ y).trans ?_
  rw [acc_apply V c t ht]
  unfold Y
  refine congrArg₂ (fun a b : EReal => a * b) (congrArg₂ (fun a b : EReal => a * b) ?_ ?_) ?_
  · refine Eq.trans ?_ (Fin.sum_mul_add_fin 16 1024 (fun k : Fin 16384 => val (C V c (ix2 ((win3_4.blk t).view.emb y 0) k)) *
      val (T V c (ix2 k ((win3_4.blk t).view.emb y 1)))) rfl)
    refine Finset.sum_congr rfl fun s _ => Finset.sum_congr rfl fun k _ => ?_
    refine congrArg₂ (fun a b : EReal => a * b) (congrArg val ?_) (congrArg val ?_)
    · blk_ext [iblk, idx1, idx4]
    · blk_ext [iblk, idx2, idx4]
  · blk_ext [iblk, idx3, idx4]
  · blk_ext [iblk, idx0, idx4]

end Cert.KernelIdeal.Matmul

end
-- ==== Proof.Layer.lean ====
/-
  The layer's five results over the reals, from the activations `x` and the weights `w`.
-/
module

public import proofs.«01_k».proof.Proof.Fields

@[expose] public section

noncomputable section

namespace Cert.BitLinear

open Idealize.ShloMosaic

/-- The activations and the weights: arrays of extended reals. -/
abbrev Acts : Type := (⟨3, ![2, 4096, 16384]⟩ : Shape).Idx → EReal
abbrev Weights : Type := (⟨2, ![16384, 6144]⟩ : Shape).Idx → EReal

/-- The weight scale: the mean magnitude of the weights. -/
abbrev gammaAt (w : Weights) : EReal := gammaOf fun i k => w (ValueIdx.ix2 i k)

/-- A row's scale. -/
abbrev scaleAt (x : Acts) (b : Fin 2) (r : Fin 4096) : EReal := scale (F := Ideal) (rowMax fun l : Fin 16384 => x (ValueIdx.ix3 b r l))

/-- An activation's code. -/
abbrev codeAt (x : Acts) (b : Fin 2) (r : Fin 4096) (k : Fin 16384) : BitVec 8 :=
  code (F := Ideal) (scaleAt x b r) (x (ValueIdx.ix3 b r k))

/-- A weight's code. -/
abbrev ternAt (w : Weights) (r : Fin 16384) (k : Fin 6144) : BitVec 8 := tern (F := Ideal) (gammaAt w) (w (ValueIdx.ix2 r k))

/-- The product of the codes, scaled. -/
abbrev outAt (x : Acts) (w : Weights) (b : Fin 2) (r : Fin 4096) (k : Fin 6144) : EReal :=
  (∑ j : Fin 16384, val (codeAt x b r j) * val (ternAt w j k)) * scaleAt x b r * gammaAt w

/-- The packed weight codes: four adjacent columns, each code plus one in two bits. -/
abbrev packAt (w : Weights) (r : Fin 16384) (k : Fin 1536) : BitVec 8 :=
  pack4 (ternAt w r ⟨4 * k.val, by omega⟩ + 1#8) (ternAt w r ⟨4 * k.val + 1, by omega⟩ + 1#8)
    (ternAt w r ⟨4 * k.val + 2, by omega⟩ + 1#8) (ternAt w r ⟨4 * k.val + 3, by omega⟩ + 1#8)

end Cert.BitLinear

end
-- ==== Proof.WholeValue.lean ====
/-
  The whole program's five results over the reals, index by index.
-/
module

public import proofs.«01_k».proof.Proof.WholeRun
public import proofs.«01_k».proof.Proof.GammaValue
public import proofs.«01_k».proof.Proof.TernValue
public import proofs.«01_k».proof.Proof.QuantValue
public import proofs.«01_k».proof.Proof.MatmulValue
public import proofs.«01_k».proof.Proof.Layer

@[expose] public section

set_option maxRecDepth 16384
set_option maxHeartbeats 1000000

noncomputable section

namespace Cert.KernelIdeal.Whole

open Cert.KernelIdeal Cert.KernelIdeal.Gen Cert.BitLinear
open Idealize.ShloMosaic Idealize.ShloMosaic.TcCoe

variable (m : (ℓ : Loc nD τ sig) → Buf (Elt Ideal) ℓ)

/-- The activations and the weights. -/
abbrev Xa (c : Dev nD) : Vec Ideal S2x4096x16384 .bf16 := m ((c : Thread nD τ).loc main_arg0)
abbrev Wa (c : Dev nD) : Vec Ideal S16384x6144 .bf16 := m ((c : Thread nD τ).loc main_arg1)

theorem W1_arg1 (c : Dev nD) : W1 m c main_arg1 = Wa m c := W1_of m c main_arg1 (by decide)

/-- The weight scale after the first region. -/
theorem W1_v0 (c : Dev nD) : W1 m c main_v0 = fun _ : S1x1.Idx => gammaAt (Wa m c) :=
  (Pipeline.afterRegion_arr (Gamma.dats (at' (W0 m)) 0 c) (W0 m c) launch0.win.arr_inj 1).trans (Gamma.final1 (at' (W0 m)) c)

/-- The weight codes and their packed form after the second. -/
theorem W2_v1_0 (c : Dev nD) : W2 m c main_v1_0 = fun i : S16384x6144.Idx => ternAt (Wa m c) (i 0) (i 1) := by
  refine (Pipeline.afterRegion_arr (Tern.dats (at' (W1 m)) 1 c) (W1 m c) launch1.win.arr_inj 2).trans ((Tern.final2 (at' (W1 m)) c).trans ?_)
  funext i
  have e0 : Tern.G (at' (W1 m)) c = fun _ => gammaAt (Wa m c) := W1_v0 m c
  have e1 : Tern.W (at' (W1 m)) c = Wa m c := W1_arg1 m c
  rw [e0, e1]
  exact congrArg (fun i => tern (F := Ideal) (gammaAt (Wa m c)) (Wa m c i)) (eq_ix2 i)

theorem W2_v1_1 (c : Dev nD) : W2 m c main_v1_1 = fun i : S16384x1536.Idx => packAt (Wa m c) (i 0) (i 1) := by
  refine (Pipeline.afterRegion_arr (Tern.dats (at' (W1 m)) 1 c) (W1 m c) launch1.win.arr_inj 3).trans ((Tern.final3 (at' (W1 m)) c).trans ?_)
  funext i
  have e0 : Tern.G (at' (W1 m)) c = fun _ => gammaAt (Wa m c) := W1_v0 m c
  have e1 : Tern.W (at' (W1 m)) c = Wa m c := W1_arg1 m c
  unfold Tern.code1
  rw [e0, e1]
  rfl

/-- The activations in rows. -/
theorem W3_v2 (c : Dev nD) : W3 m c main_v2 = shapeCast S8192x16384 (Xa m c) shapeCasts_S2x4096x16384_S8192x16384 := by
  have e : W2 m c main_arg0 = Xa m c := (W2_of m c main_arg0 (by decide)).trans (W1_of m c main_arg0 (by decide))
  unfold W3
  after_results
  rw [e]
  rfl

/-- A row of the activations. -/
theorem W3_v2_apply (c : Dev nD) (i : Fin 8192) (k : Fin 16384) :
    Quant.X (at' (W3 m)) c (ix2 i k) = Xa m c (ix3 ⟨i.val / 4096, by omega⟩ ⟨i.val % 4096, by omega⟩ k) := by
  refine (congrFun (W3_v2 m c) (ix2 i k)).trans ?_
  pointwise

/-- The activations' scales and codes after the third region. -/
theorem W4_v3_1 (c : Dev nD) : W4 m c main_v3_1
    = fun i : S8192x1.Idx => scaleAt (Xa m c) ⟨(i 0).val / 4096, by have h : (i 0).val < 8192 := (i 0).isLt; omega⟩ ⟨(i 0).val % 4096, by omega⟩ := by
  refine (Pipeline.afterRegion_arr (Quant.dats (at' (W3 m)) 2 c) (W3 m c) launch2.win.arr_inj 2).trans ((Quant.final2 (at' (W3 m)) c).trans ?_)
  funext i
  exact congrArg (fun f => scale (F := Ideal) (rowMax f)) (funext fun k => W3_v2_apply m c (i 0) k)

theorem W4_v3_0 (c : Dev nD) : W4 m c main_v3_0
    = fun i : S8192x16384.Idx => codeAt (Xa m c) ⟨(i 0).val / 4096, by have h : (i 0).val < 8192 := (i 0).isLt; omega⟩ ⟨(i 0).val % 4096, by omega⟩ (i 1) := by
  refine (Pipeline.afterRegion_arr (Quant.dats (at' (W3 m)) 2 c) (W3 m c) launch2.win.arr_inj 1).trans ((Quant.final1 (at' (W3 m)) c).trans ?_)
  funext i
  refine congrArg₂ (fun f x => code (F := Ideal) (scale (F := Ideal) (rowMax f)) x) (funext fun k => W3_v2_apply m c (i 0) k) ?_
  exact (congrArg (Quant.X (at' (W3 m)) c) (eq_ix2 i)).trans (W3_v2_apply m c (i 0) (i 1))

theorem W4_v1_0 (c : Dev nD) : W4 m c main_v1_0 = fun i : S16384x6144.Idx => ternAt (Wa m c) (i 0) (i 1) :=
  (W4_of m c main_v1_0 (by decide)).trans ((W3_of m c main_v1_0 (by decide)).trans (W2_v1_0 m c))
theorem W4_v0 (c : Dev nD) : W4 m c main_v0 = fun _ : S1x1.Idx => gammaAt (Wa m c) :=
  (W4_of m c main_v0 (by decide)).trans ((W3_of m c main_v0 (by decide)).trans ((W2_of m c main_v0 (by decide)).trans (W1_v0 m c)))

/-- The scaled product after the fourth. -/
theorem W5_v4 (c : Dev nD) : W5 m c main_v4
    = fun i : S8192x6144.Idx => outAt (Xa m c) (Wa m c) ⟨(i 0).val / 4096, by have h : (i 0).val < 8192 := (i 0).isLt; omega⟩ ⟨(i 0).val % 4096, by omega⟩ (i 1) := by
  refine (Pipeline.afterRegion_arr (Matmul.dats (at' (W4 m)) 3 c) (W4 m c) launch3.win.arr_inj 4).trans ((Matmul.final4 (at' (W4 m)) c).trans ?_)
  funext i
  have eC : Matmul.C (at' (W4 m)) c = _ := W4_v3_0 m c
  have eT : Matmul.T (at' (W4 m)) c = _ := W4_v1_0 m c
  have eS : Matmul.S (at' (W4 m)) c = _ := W4_v3_1 m c
  have eG : Matmul.G (at' (W4 m)) c = _ := W4_v0 m c
  unfold Matmul.Y
  rw [eC, eT, eS, eG]
  rfl

/-! ## The results -/

theorem res0 (c : Dev nD) : W6 m c main_v5 = fun i : S2x4096x6144.Idx => outAt (Xa m c) (Wa m c) (i 0) (i 1) (i 2) := by
  unfold W6
  after_results
  rw [W5_v4]
  funext i
  rw [eq_ix3 i]
  pointwise
  have h0 : (i 0).val < 2 := (i 0).isLt
  have h1 : (i 1).val < 4096 := (i 1).isLt
  exact congrArg₂ (fun (b : Fin 2) (r : Fin 4096) => outAt (Xa m c) (Wa m c) b r (i 2)) (Fin.ext (by show ((i 0).val * 4096 + (i 1).val) / 4096 = (i 0).val; omega))
    (Fin.ext (by show ((i 0).val * 4096 + (i 1).val) % 4096 = (i 1).val; omega))

theorem res1 (c : Dev nD) : W6 m c main_v1_1 = fun i : S16384x1536.Idx => packAt (Wa m c) (i 0) (i 1) :=
  (W6_of m c main_v1_1 (by decide)).trans ((W5_of m c main_v1_1 (by decide)).trans ((W4_of m c main_v1_1 (by decide)).trans
    ((W3_of m c main_v1_1 (by decide)).trans (W2_v1_1 m c))))

theorem res2 (c : Dev nD) : W6 m c main_v6 = fun _ : S_.Idx => gammaAt (Wa m c) := by
  have e : W5 m c main_v0 = _ := (W5_of m c main_v0 (by decide)).trans (W4_v0 m c)
  unfold W6
  after_results
  rw [e]
  rfl

theorem res3 (c : Dev nD) : W6 m c main_v7 = fun i : S2x4096x16384.Idx => codeAt (Xa m c) (i 0) (i 1) (i 2) := by
  have e : W5 m c main_v3_0 = _ := (W5_of m c main_v3_0 (by decide)).trans (W4_v3_0 m c)
  unfold W6
  after_results
  rw [e]
  funext i
  rw [eq_ix3 i]
  pointwise
  have h0 : (i 0).val < 2 := (i 0).isLt
  have h1 : (i 1).val < 4096 := (i 1).isLt
  exact congrArg₂ (fun (b : Fin 2) (r : Fin 4096) => codeAt (Xa m c) b r (i 2)) (Fin.ext (by show ((i 0).val * 4096 + (i 1).val) / 4096 = (i 0).val; omega))
    (Fin.ext (by show ((i 0).val * 4096 + (i 1).val) % 4096 = (i 1).val; omega))

theorem res4 (c : Dev nD) : W6 m c main_v8 = fun i : S2x4096.Idx => scaleAt (Xa m c) (i 0) (i 1) := by
  have e : W5 m c main_v3_1 = _ := (W5_of m c main_v3_1 (by decide)).trans (W4_v3_1 m c)
  unfold W6
  after_results
  rw [e]
  funext i
  rw [eq_ix2 i]
  pointwise
  have h0 : (i 0).val < 2 := (i 0).isLt
  have h1 : (i 1).val < 4096 := (i 1).isLt
  exact congrArg₂ (fun (b : Fin 2) (r : Fin 4096) => scaleAt (Xa m c) b r) (Fin.ext (by show ((i 0).val * 4096 + (i 1).val) / 4096 = (i 0).val; omega))
    (Fin.ext (by show ((i 0).val * 4096 + (i 1).val) % 4096 = (i 1).val; omega))

end Cert.KernelIdeal.Whole

end
-- ==== Proof.RefValue.lean ====
/-
  The reference's arithmetic, index by index.
-/
module

public import proofs.«01_k».proof.Proof.Gen.ReferenceIdeal.Value
public import proofs.«01_k».proof.Proof.Layer
public import Idealize.ShloMosaic.Lib.Pipeline.ValueKit
public import Idealize.ShloMosaic.Lib.Pipeline.ReadBack
public import Idealize.ShloMosaic.Lib.Pipeline.Covers

@[expose] public section

set_option maxRecDepth 16384
set_option maxHeartbeats 1000000

noncomputable section

namespace Cert.ReferenceIdeal.Whole

open Cert.ReferenceIdeal Cert.ReferenceIdeal.Gen Cert.BitLinear
open Idealize.ShloMosaic Idealize.ShloMosaic.TcCoe

section
variable {F : FTy → Type} [FloatOps F]

theorem tern_tree (g : F .f32) (w : Vec F S16384x6144 .bf16) (r : Fin 16384) (k : Fin 6144) :
    k0_pay2 g w (ix2 r k) = tern g (FloatOps.extf .f32 bitsLt_bf16_f32 (w (ix2 r k))) := by
  pointwise [k0_pay2, tern]

theorem scale_tree (x : Vec F S2x4096x16384 .bf16) (b : Fin 2) (r : Fin 4096) :
    k0_pay4 x (ix2 b r) = scale (multiReduction .maximumf [2] S2x4096 (absf (k0_pay3 x)) 0xFF800000#32 reduces_S2x4096x16384_S2x4096 (.inl rfl) rfl (ix2 b r)) := by
  pointwise [k0_pay4, scale]

theorem code_tree (x : Vec F S2x4096x16384 .bf16) (b : Fin 2) (r : Fin 4096) (k : Fin 16384) :
    k0_pay5 x (ix3 b r k) = code (k0_pay4 x (ix2 b r)) (FloatOps.extf .f32 bitsLt_bf16_f32 (x (ix3 b r k))) := by
  pointwise [k0_pay5, k0_pay3, code]

theorem pack_tree (t : IVec S16384x6144 8) (r : Fin 16384) (k : Fin 1536) :
    k0_pay1 t (ix2 r k) = pack4 (t (ix2 r ⟨4 * k.val, by omega⟩) + 1#8) (t (ix2 r ⟨4 * k.val + 1, by omega⟩) + 1#8)
      (t (ix2 r ⟨4 * k.val + 2, by omega⟩) + 1#8) (t (ix2 r ⟨4 * k.val + 3, by omega⟩) + 1#8) := by
  pointwise [k0_pay1]
  simp only [Nat.mul_comm k.val 4]
  rfl

theorem out_tree (g : F .f32) (w : Vec F S16384x6144 .bf16) (x : Vec F S2x4096x16384 .bf16) (b : Fin 2) (r : Fin 4096) (k : Fin 6144) :
    k0_pay6 g w x (ix3 b r k) = FloatOps.truncf .bf16 bitsLt_bf16_f32 (FloatOps.mulf (FloatOps.mulf
      (matmul dot_S2x4096x16384_S16384x6144_S2x4096x6144_2_0_01_1_n_n none (sitofp .bf16 (k0_pay5 x)) (sitofp .bf16 (k0_pay2 g w))
        (constant S2x4096x6144 .f32 0x00000000#32) (ix3 b r k)) (k0_pay4 x (ix2 b r))) g) := by
  pointwise [k0_pay6]
end

theorem max_apply (x : Vec Ideal S2x4096x16384 .bf16) (b : Fin 2) (r : Fin 4096) :
    multiReduction (F := Ideal) .maximumf [2] S2x4096 (absf (k0_pay3 x)) 0xFF800000#32 reduces_S2x4096x16384_S2x4096 (.inl rfl) rfl (ix2 b r)
      = rowMax fun k : Fin 16384 => x (ix3 b r k) := by
  unfold rowMax
  rw [← ofBits_negInf_f32]
  pointwise [k0_pay3]
  rfl

theorem dot_apply (a : FVec Ideal S2x4096x16384 .bf16) (t : FVec Ideal S16384x6144 .bf16) (b : Fin 2) (r : Fin 4096) (k : Fin 6144) :
    matmul (F := Ideal) dot_S2x4096x16384_S16384x6144_S2x4096x6144_2_0_01_1_n_n none a t (constant S2x4096x6144 .f32 0x00000000#32) (ix3 b r k)
      = ∑ j : Fin 16384, a (ix3 b r j) * t (ix2 j k) := by
  pointwise

theorem scale_apply (x : Vec Ideal S2x4096x16384 .bf16) (b : Fin 2) (r : Fin 4096) :
    k0_pay4 (F := Ideal) x (ix2 b r) = scale (F := Ideal) (rowMax fun k : Fin 16384 => x (ix3 b r k)) :=
  (scale_tree x b r).trans (congrArg (scale (F := Ideal)) (max_apply x b r))

theorem code_apply (x : Vec Ideal S2x4096x16384 .bf16) (b : Fin 2) (r : Fin 4096) (k : Fin 16384) :
    k0_pay5 (F := Ideal) x (ix3 b r k) = code (F := Ideal) (scale (F := Ideal) (rowMax fun j : Fin 16384 => x (ix3 b r j))) (x (ix3 b r k)) :=
  (code_tree x b r k).trans (congrArg (fun s => code (F := Ideal) s (x (ix3 b r k))) (scale_apply x b r))

theorem tern_apply (g : EReal) (w : Vec Ideal S16384x6144 .bf16) (r : Fin 16384) (k : Fin 6144) :
    k0_pay2 (F := Ideal) g w (ix2 r k) = tern (F := Ideal) g (w (ix2 r k)) := tern_tree (F := Ideal) g w r k

theorem pack_apply (g : EReal) (w : Vec Ideal S16384x6144 .bf16) (r : Fin 16384) (k : Fin 1536) :
    k0_pay1 (k0_pay2 (F := Ideal) g w) (ix2 r k) = pack4 (tern (F := Ideal) g (w (ix2 r ⟨4 * k.val, by omega⟩)) + 1#8)
      (tern (F := Ideal) g (w (ix2 r ⟨4 * k.val + 1, by omega⟩)) + 1#8) (tern (F := Ideal) g (w (ix2 r ⟨4 * k.val + 2, by omega⟩)) + 1#8)
      (tern (F := Ideal) g (w (ix2 r ⟨4 * k.val + 3, by omega⟩)) + 1#8) := by
  rw [pack_tree, tern_apply, tern_apply, tern_apply, tern_apply]

theorem out_apply (g : EReal) (w : Vec Ideal S16384x6144 .bf16) (x : Vec Ideal S2x4096x16384 .bf16) (b : Fin 2) (r : Fin 4096) (k : Fin 6144) :
    k0_pay6 (F := Ideal) g w x (ix3 b r k)
      = (∑ j : Fin 16384, val (code (F := Ideal) (scale (F := Ideal) (rowMax fun l : Fin 16384 => x (ix3 b r l))) (x (ix3 b r j)))
          * val (tern (F := Ideal) g (w (ix2 j k)))) * scale (F := Ideal) (rowMax fun l : Fin 16384 => x (ix3 b r l)) * g := by
  rw [out_tree, dot_apply, scale_apply]
  have e : (∑ j : Fin 16384, (sitofp (F := Ideal) .bf16 (k0_pay5 (F := Ideal) x) : FVec Ideal S2x4096x16384 .bf16) (ix3 b r j)
        * (sitofp (F := Ideal) .bf16 (k0_pay2 (F := Ideal) g w) : FVec Ideal S16384x6144 .bf16) (ix2 j k))
      = ∑ j : Fin 16384, val (code (F := Ideal) (scale (F := Ideal) (rowMax fun l : Fin 16384 => x (ix3 b r l))) (x (ix3 b r j)))
          * val (tern (F := Ideal) g (w (ix2 j k))) := by
    refine Finset.sum_congr rfl fun j _ => ?_
    rw [← code_apply, ← tern_apply]
    rfl
  exact congrArg (fun z : EReal => z * scale (F := Ideal) (rowMax fun l : Fin 16384 => x (ix3 b r l)) * g) e

/-! ## The arrays after the run -/

variable (m : (ℓ : Loc nD τ sig) → Buf (Elt Ideal) ℓ)

/-- The activations, the weights and the weight scale. -/
abbrev X (c : Dev nD) : Vec Ideal S2x4096x16384 .bf16 := m ((c : Thread nD τ).loc main_arg0)
abbrev W (c : Dev nD) : Vec Ideal S16384x6144 .bf16 := m ((c : Thread nD τ).loc main_arg1)
abbrev g (c : Dev nD) : EReal := gammaAt (W m c)

theorem gamma_final (c : Dev nD) : V m c main_v3 = fun _ : S_.Idx => g m c := by
  funext i
  entry_read
  unfold g gammaAt gammaOf
  pointwise
  rfl

theorem gamma_block (c : Dev nD) (t : Fin cfg0.N) : (iblk m c 0 t : Vec Ideal S1x1 .f32) (Shape.Idx.first (show 0 < S1x1.numel by decide)) = g m c := by
  unfold g gammaAt gammaOf
  blk_simp [iblk]
  entry_read
  pointwise
  rfl

theorem idx1 (t : Fin cfg0.N) : win0_1.index t = ![0, 0, 0] := by
  revert t; decide +kernel
theorem idx2 (t : Fin cfg0.N) : win0_2.index t = ![0, 0] := by
  revert t; decide +kernel

theorem x_block (c : Dev nD) (t : Fin cfg0.N) : (iblk m c 1 t : Vec Ideal S2x4096x16384 .bf16) = X m c := by
  funext i
  blk_ext [iblk, V, idx1]

theorem w_block (c : Dev nD) (t : Fin cfg0.N) : (iblk m c 2 t : Vec Ideal S16384x6144 .bf16) = W m c := by
  funext i
  blk_ext [iblk, V, idx2]

/-- The one grid point. -/
def t0 : Fin cfg0.N := ⟨0, by decide⟩

theorem final3 (c : Dev nD) : (dats m 0 c).arrAt 3 cfg0.N = fun i : S2x4096x6144.Idx => outAt (X m c) (W m c) (i 0) (i 1) (i 2) := by
  refine (dats m 0 c).arrAt_eq_of_after_last 3 t0 (by decide +kernel) _ fun j => ?_
  blk_simp
  rw [after0_3]
  unfold outsAt0 out0_A_3 kernelRun0_A
  dsimp only
  frame_out
  simp only [read_unread_whole]
  rw [gamma_block, x_block, w_block]
  refine (congrArg _ (eq_ix3 j)).trans (out_apply (g m c) (W m c) (X m c) (j 0) (j 1) (j 2))

theorem final4 (c : Dev nD) : (dats m 0 c).arrAt 4 cfg0.N = fun i : S16384x1536.Idx => packAt (W m c) (i 0) (i 1) := by
  refine (dats m 0 c).arrAt_eq_of_after_last 4 t0 (by decide +kernel) _ fun j => ?_
  blk_simp
  rw [after0_4]
  unfold outsAt0 out0_A_4 kernelRun0_A
  dsimp only
  frame_out
  simp only [read_unread_whole]
  rw [gamma_block, w_block]
  refine (congrArg _ (eq_ix2 j)).trans (pack_apply (g m c) (W m c) (j 0) (j 1))

theorem final5 (c : Dev nD) : (dats m 0 c).arrAt 5 cfg0.N = fun i : S2x4096x16384.Idx => codeAt (X m c) (i 0) (i 1) (i 2) := by
  refine (dats m 0 c).arrAt_eq_of_after_last 5 t0 (by decide +kernel) _ fun j => ?_
  blk_simp
  rw [after0_5]
  unfold outsAt0 out0_A_5 kernelRun0_A
  dsimp only
  frame_out
  simp only [read_unread_whole]
  rw [x_block]
  refine (congrArg _ (eq_ix3 j)).trans (code_apply (X m c) (j 0) (j 1) (j 2))

theorem final6 (c : Dev nD) : (dats m 0 c).arrAt 6 cfg0.N = fun i : S2x4096.Idx => scaleAt (X m c) (i 0) (i 1) := by
  refine (dats m 0 c).arrAt_eq_of_after_last 6 t0 (by decide +kernel) _ fun j => ?_
  blk_simp
  rw [after0_6]
  unfold outsAt0 out0_A_6 kernelRun0_A
  dsimp only
  frame_out
  simp only [read_unread_whole]
  rw [x_block]
  refine (congrArg _ (eq_ix2 j)).trans (scale_apply (X m c) (j 0) (j 1))

end Cert.ReferenceIdeal.Whole

end
-- ==== Proof.lean ====
/-
  The five claims: the programs' runs, the idealization, and the equality of the results over the reals.
-/
module

public import proofs.«01_k».proof.Defs
public import proofs.«01_k».proof.Proof.Gen.ReferenceIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Transfer
public import proofs.«01_k».proof.Proof.WholeValue
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- Both programs end at the layer's five results of the same arguments. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Whole.W6 m c Cert.KernelIdeal.main_v5, fun c => Cert.KernelIdeal.Whole.W6 m c Cert.KernelIdeal.main_v1_1,
    fun c => Cert.KernelIdeal.Whole.W6 m c Cert.KernelIdeal.main_v6, fun c => Cert.KernelIdeal.Whole.W6 m c Cert.KernelIdeal.main_v7,
    fun c => Cert.KernelIdeal.Whole.W6 m c Cert.KernelIdeal.main_v8, ?_, ?_⟩
  · exact (θ_run _ _ _).mono (fun r h c => ⟨h.1 c Cert.KernelIdeal.main_v5 (by decide), h.1 c Cert.KernelIdeal.main_v1_1 (by decide), h.1 c Cert.KernelIdeal.main_v6 (by decide), h.1 c Cert.KernelIdeal.main_v7 (by decide), h.1 c Cert.KernelIdeal.main_v8 (by decide),
      (h.1 c Cert.KernelIdeal.main_arg0 (by decide)).trans (Cert.KernelIdeal.Whole.W6_main_arg0 m c),
      (h.1 c Cert.KernelIdeal.main_arg1 (by decide)).trans (Cert.KernelIdeal.Whole.W6_main_arg1 m c)⟩) (Cert.KernelIdeal.Whole.run (F := Ideal) m g)
  · refine (θ_run _ _ _).mono (fun r h c => ?_) (Cert.ReferenceIdeal.Gen.run_main (F := Ideal) m' g')
    have ex : Cert.ReferenceIdeal.Whole.X m' c = Cert.KernelIdeal.Whole.Xa m c := (hm c).1
    have ew : Cert.ReferenceIdeal.Whole.W m' c = Cert.KernelIdeal.Whole.Wa m c := (hm c).2
    refine ⟨?_, ?_, ?_, ?_, ?_, Cert.ReferenceIdeal.Value.kept_main_arg0 m' r h c, Cert.ReferenceIdeal.Value.kept_main_arg1 m' r h c⟩
    · refine (Cert.ReferenceIdeal.Value.post3 m' r h c).trans ((Cert.ReferenceIdeal.Whole.final3 m' c).trans ?_)
      rw [ex, ew]
      exact (Cert.KernelIdeal.Whole.res0 m c).symm
    · refine (Cert.ReferenceIdeal.Value.post4 m' r h c).trans ((Cert.ReferenceIdeal.Whole.final4 m' c).trans ?_)
      rw [ew]
      exact (Cert.KernelIdeal.Whole.res1 m c).symm
    · refine ((h c).2 Cert.ReferenceIdeal.main_v3 (by decide)).trans ((Cert.ReferenceIdeal.Whole.gamma_final m' c).trans ?_)
      unfold Cert.ReferenceIdeal.Whole.g
      rw [ew]
      exact (Cert.KernelIdeal.Whole.res2 m c).symm
    · refine (Cert.ReferenceIdeal.Value.post5 m' r h c).trans ((Cert.ReferenceIdeal.Whole.final5 m' c).trans ?_)
      rw [ex]
      exact (Cert.KernelIdeal.Whole.res3 m c).symm
    · refine (Cert.ReferenceIdeal.Value.post6 m' r h c).trans ((Cert.ReferenceIdeal.Whole.final6 m' c).trans ?_)
      rw [ex]
      exact (Cert.KernelIdeal.Whole.res4 m c).symm

theorem claim : Cert.Claim := ⟨Cert.Kernel.Gen.facts, Cert.KernelIdeal.Gen.facts, Cert.ReferenceIdeal.Gen.facts,
  Cert.Transfer.frame, fun m g _ => Cert.KernelIdeal.Whole.frame (F := Ideal) m g, fun m g _ => Cert.ReferenceIdeal.Gen.frame m g, trivial, algebraic⟩

end Cert.Proof

end
